-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x255x76x76 : Shape := ⟨4, ![16, 255, 76, 76]⟩
abbrev S16x3x85x5776 : Shape := ⟨4, ![16, 3, 85, 5776]⟩
abbrev S16x17328x85 : Shape := ⟨3, ![16, 17328, 85]⟩
abbrev S1x3x85x5776 : Shape := ⟨4, ![1, 3, 85, 5776]⟩
abbrev S2x17328x85 : Shape := ⟨3, ![2, 17328, 85]⟩
abbrev S2x8 : Shape := ⟨2, ![2, 8]⟩
abbrev S1x1 : Shape := ⟨2, ![1, 1]⟩
abbrev S_ : Shape := ⟨0, ![]⟩
abbrev S1x2160x85 : Shape := ⟨3, ![1, 2160, 85]⟩
abbrev S2160x85 : Shape := ⟨2, ![2160, 85]⟩
abbrev S1x2208x85 : Shape := ⟨3, ![1, 2208, 85]⟩
abbrev S2208x85 : Shape := ⟨2, ![2208, 85]⟩
abbrev S1x1x85x5776 : Shape := ⟨4, ![1, 1, 85, 5776]⟩
abbrev S85x5776 : Shape := ⟨2, ![85, 5776]⟩
abbrev S1x5776 : Shape := ⟨2, ![1, 5776]⟩
abbrev S2x5776 : Shape := ⟨2, ![2, 5776]⟩
abbrev S81x5776 : Shape := ⟨2, ![81, 5776]⟩
abbrev S5776x85 : Shape := ⟨2, ![5776, 85]⟩
abbrev S1x5776x85 : Shape := ⟨3, ![1, 5776, 85]⟩

abbrev nBuf : Space → Nat
  | .hbm => 4
  | .vmem => 3
  | .smem => 0
  | _ => 0

abbrev bufTy : (tb : Table) → Fin (tcTables nBuf tb) → BufTy
  | .hbm, ⟨0, _⟩ => ⟨S16x255x76x76, .f32⟩
  | .hbm, ⟨1, _⟩ => ⟨S16x3x85x5776, .f32⟩
  | .hbm, ⟨2, _⟩ => ⟨S16x17328x85, .f32⟩
  | .hbm, ⟨3, _⟩ => ⟨S_, .i32⟩
  | .local _ .vmem, ⟨0, _⟩ => ⟨S1x3x85x5776, .f32⟩
  | .local _ .vmem, ⟨1, _⟩ => ⟨S1x3x85x5776, .f32⟩
  | .local _ .vmem, ⟨2, _⟩ => ⟨S2x17328x85, .f32⟩
  | _, _ => ⟨S16x255x76x76, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_97 : BitVec 32 := 0#32
  ![v9.toNat, 0]
def k0_off2 (i : grid0.Coords) : Fin 3 → Nat :=
  let arg0 : BitVec 32 := BitVec.ofNat 32 (i 0).val
  let c2_i32_96 : BitVec 32 := 2#32
  let v277 : BitVec 32 := Scalar.subi arg0 c2_i32_96
  let c0_i32_98 : BitVec 32 := 0#32
  let c0_i32_99 : BitVec 32 := 0#32
  ![v277.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_100 : BitVec 32 := 0#32
  let c0_i32_101 : BitVec 32 := 0#32
  ![v9.toNat, 0, 0]
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_102 : BitVec 32 := 1#32
  ![v9.toNat, 1]
def k0_off5 (i : grid0.Coords) : Fin 3 → Nat :=
  let arg0 : BitVec 32 := BitVec.ofNat 32 (i 0).val
  let c2_i32_96 : BitVec 32 := 2#32
  let v277 : BitVec 32 := Scalar.subi arg0 c2_i32_96
  let c2160_i32_103 : BitVec 32 := 2160#32
  let c0_i32_104 : BitVec 32 := 0#32
  ![v277.toNat, 2160, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2160_i32_105 : BitVec 32 := 2160#32
  let c0_i32_106 : BitVec 32 := 0#32
  ![v9.toNat, 2160, 0]
def k0_off7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_107 : BitVec 32 := 2#32
  ![v9.toNat, 2]
def k0_off8 (i : grid0.Coords) : Fin 3 → Nat :=
  let arg0 : BitVec 32 := BitVec.ofNat 32 (i 0).val
  let c2_i32_96 : BitVec 32 := 2#32
  let v277 : BitVec 32 := Scalar.subi arg0 c2_i32_96
  let c4320_i32_108 : BitVec 32 := 4320#32
  let c0_i32_109 : BitVec 32 := 0#32
  ![v277.toNat, 4320, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4320_i32_110 : BitVec 32 := 4320#32
  let c0_i32_111 : BitVec 32 := 0#32
  ![v9.toNat, 4320, 0]
def k0_off10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_112 : BitVec 32 := 3#32
  ![v9.toNat, 3]
def k0_off11 (i : grid0.Coords) : Fin 3 → Nat :=
  let arg0 : BitVec 32 := BitVec.ofNat 32 (i 0).val
  let c2_i32_96 : BitVec 32 := 2#32
  let v277 : BitVec 32 := Scalar.subi arg0 c2_i32_96
  let c6480_i32_113 : BitVec 32 := 6480#32
  let c0_i32_114 : BitVec 32 := 0#32
  ![v277.toNat, 6480, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6480_i32_115 : BitVec 32 := 6480#32
  let c0_i32_116 : BitVec 32 := 0#32
  ![v9.toNat, 6480, 0]
def k0_off13 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_117 : BitVec 32 := 4#32
  ![v9.toNat, 4]
def k0_off14 (i : grid0.Coords) : Fin 3 → Nat :=
  let arg0 : BitVec 32 := BitVec.ofNat 32 (i 0).val
  let c2_i32_96 : BitVec 32 := 2#32
  let v277 : BitVec 32 := Scalar.subi arg0 c2_i32_96
  let c8640_i32_118 : BitVec 32 := 8640#32
  let c0_i32_119 : BitVec 32 := 0#32
  ![v277.toNat, 8640, 0]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8640_i32_120 : BitVec 32 := 8640#32
  let c0_i32_121 : BitVec 32 := 0#32
  ![v9.toNat, 8640, 0]
def k0_off16 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32_122 : BitVec 32 := 5#32
  ![v9.toNat, 5]
def k0_off17 (i : grid0.Coords) : Fin 3 → Nat :=
  let arg0 : BitVec 32 := BitVec.ofNat 32 (i 0).val
  let c2_i32_96 : BitVec 32 := 2#32
  let v277 : BitVec 32 := Scalar.subi arg0 c2_i32_96
  let c10800_i32_123 : BitVec 32 := 10800#32
  let c0_i32_124 : BitVec 32 := 0#32
  ![v277.toNat, 10800, 0]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10800_i32_125 : BitVec 32 := 10800#32
  let c0_i32_126 : BitVec 32 := 0#32
  ![v9.toNat, 10800, 0]
def k0_off19 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32_127 : BitVec 32 := 6#32
  ![v9.toNat, 6]
def k0_off20 (i : grid0.Coords) : Fin 3 → Nat :=
  let arg0 : BitVec 32 := BitVec.ofNat 32 (i 0).val
  let c2_i32_96 : BitVec 32 := 2#32
  let v277 : BitVec 32 := Scalar.subi arg0 c2_i32_96
  let c12960_i32_128 : BitVec 32 := 12960#32
  let c0_i32_129 : BitVec 32 := 0#32
  ![v277.toNat, 12960, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12960_i32_130 : BitVec 32 := 12960#32
  let c0_i32_131 : BitVec 32 := 0#32
  ![v9.toNat, 12960, 0]
def k0_off22 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32_132 : BitVec 32 := 7#32
  ![v9.toNat, 7]
def k0_off23 (i : grid0.Coords) : Fin 3 → Nat :=
  let arg0 : BitVec 32 := BitVec.ofNat 32 (i 0).val
  let c2_i32_96 : BitVec 32 := 2#32
  let v277 : BitVec 32 := Scalar.subi arg0 c2_i32_96
  let c15120_i32_133 : BitVec 32 := 15120#32
  let c0_i32_134 : BitVec 32 := 0#32
  ![v277.toNat, 15120, 0]
def k0_off24 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15120_i32_135 : BitVec 32 := 15120#32
  let c0_i32_136 : BitVec 32 := 0#32
  ![v9.toNat, 15120, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : Index := Scalar.indexCast v9
  let c0_23 : Index := 0#32
  let c0_24 : Index := 0#32
  ![v80.toNat, 0, 0]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v151 : Index := Scalar.indexCast v9
  let c5776 : Index := 5776#32
  let c0_45 : Index := 0#32
  ![v151.toNat, 5776, 0]
def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v222 : Index := Scalar.indexCast v9
  let c11552 : Index := 11552#32
  let c0_66 : Index := 0#32
  ![v222.toNat, 11552, 0]
def k0_off28 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_67 : BitVec 32 := 0#32
  ![v9.toNat, 0]
def k0_off29 (i : grid0.Coords) : Fin 3 → Nat :=
  let arg0 : BitVec 32 := BitVec.ofNat 32 (i 0).val
  let c0_i32_68 : BitVec 32 := 0#32
  let c0_i32_69 : BitVec 32 := 0#32
  ![arg0.toNat, 0, 0]
def k0_off30 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_70 : BitVec 32 := 0#32
  let c0_i32_71 : BitVec 32 := 0#32
  ![v9.toNat, 0, 0]
def k0_off31 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_72 : BitVec 32 := 1#32
  ![v9.toNat, 1]
def k0_off32 (i : grid0.Coords) : Fin 3 → Nat :=
  let arg0 : BitVec 32 := BitVec.ofNat 32 (i 0).val
  let c2160_i32 : BitVec 32 := 2160#32
  let c0_i32_73 : BitVec 32 := 0#32
  ![arg0.toNat, 2160, 0]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2160_i32_74 : BitVec 32 := 2160#32
  let c0_i32_75 : BitVec 32 := 0#32
  ![v9.toNat, 2160, 0]
def k0_off34 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_76 : BitVec 32 := 2#32
  ![v9.toNat, 2]
def k0_off35 (i : grid0.Coords) : Fin 3 → Nat :=
  let arg0 : BitVec 32 := BitVec.ofNat 32 (i 0).val
  let c4320_i32 : BitVec 32 := 4320#32
  let c0_i32_77 : BitVec 32 := 0#32
  ![arg0.toNat, 4320, 0]
def k0_off36 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4320_i32_78 : BitVec 32 := 4320#32
  let c0_i32_79 : BitVec 32 := 0#32
  ![v9.toNat, 4320, 0]
def k0_off37 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  ![v9.toNat, 3]
def k0_off38 (i : grid0.Coords) : Fin 3 → Nat :=
  let arg0 : BitVec 32 := BitVec.ofNat 32 (i 0).val
  let c6480_i32 : BitVec 32 := 6480#32
  let c0_i32_80 : BitVec 32 := 0#32
  ![arg0.toNat, 6480, 0]
def k0_off39 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6480_i32_81 : BitVec 32 := 6480#32
  let c0_i32_82 : BitVec 32 := 0#32
  ![v9.toNat, 6480, 0]
def k0_off40 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  ![v9.toNat, 4]
def k0_off41 (i : grid0.Coords) : Fin 3 → Nat :=
  let arg0 : BitVec 32 := BitVec.ofNat 32 (i 0).val
  let c8640_i32 : BitVec 32 := 8640#32
  let c0_i32_83 : BitVec 32 := 0#32
  ![arg0.toNat, 8640, 0]
def k0_off42 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8640_i32_84 : BitVec 32 := 8640#32
  let c0_i32_85 : BitVec 32 := 0#32
  ![v9.toNat, 8640, 0]
def k0_off43 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32 : BitVec 32 := 5#32
  ![v9.toNat, 5]
def k0_off44 (i : grid0.Coords) : Fin 3 → Nat :=
  let arg0 : BitVec 32 := BitVec.ofNat 32 (i 0).val
  let c10800_i32 : BitVec 32 := 10800#32
  let c0_i32_86 : BitVec 32 := 0#32
  ![arg0.toNat, 10800, 0]
def k0_off45 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10800_i32_87 : BitVec 32 := 10800#32
  let c0_i32_88 : BitVec 32 := 0#32
  ![v9.toNat, 10800, 0]
def k0_off46 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32 : BitVec 32 := 6#32
  ![v9.toNat, 6]
def k0_off47 (i : grid0.Coords) : Fin 3 → Nat :=
  let arg0 : BitVec 32 := BitVec.ofNat 32 (i 0).val
  let c12960_i32 : BitVec 32 := 12960#32
  let c0_i32_89 : BitVec 32 := 0#32
  ![arg0.toNat, 12960, 0]
def k0_off48 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12960_i32_90 : BitVec 32 := 12960#32
  let c0_i32_91 : BitVec 32 := 0#32
  ![v9.toNat, 12960, 0]
def k0_off49 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  ![v9.toNat, 7]
def k0_off50 (i : grid0.Coords) : Fin 3 → Nat :=
  let arg0 : BitVec 32 := BitVec.ofNat 32 (i 0).val
  let c15120_i32 : BitVec 32 := 15120#32
  let c0_i32_92 : BitVec 32 := 0#32
  ![arg0.toNat, 15120, 0]
def k0_off51 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15120_i32_93 : BitVec 32 := 15120#32
  let c0_i32_94 : BitVec 32 := 0#32
  ![v9.toNat, 15120, 0]
def k0_cond2 (i : grid0.Coords) : BitVec 1 :=
  let arg0 : BitVec 32 := BitVec.ofNat 32 (i 0).val
  let c15_i32 : BitVec 32 := 15#32
  let v274 : BitVec 1 := Scalar.cmpi .eq arg0 c15_i32
  let v275 : BitVec 32 := Scalar.extui v274
  let c0_i32_95 : BitVec 32 := 0#32
  let v276 : BitVec 1 := Scalar.cmpi .ne v275 c0_i32_95
  v276

def k0_off52 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c0_i32_104 : BitVec 32 := 0#32
  ![v288.toNat, 0]
def k0_off53 (i : grid0.Coords) : Fin 3 → Nat :=
  let arg0 : BitVec 32 := BitVec.ofNat 32 (i 0).val
  let c1_i32_96 : BitVec 32 := 1#32
  let v277 : BitVec 32 := Scalar.subi arg0 c1_i32_96
  let c0_i32_105 : BitVec 32 := 0#32
  let c0_i32_106 : BitVec 32 := 0#32
  ![v277.toNat, 0, 0]
def k0_off54 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c0_i32_107 : BitVec 32 := 0#32
  let c0_i32_108 : BitVec 32 := 0#32
  ![v288.toNat, 0, 0]
def k0_off55 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c1_i32_109 : BitVec 32 := 1#32
  ![v288.toNat, 1]
def k0_off56 (i : grid0.Coords) : Fin 3 → Nat :=
  let arg0 : BitVec 32 := BitVec.ofNat 32 (i 0).val
  let c1_i32_96 : BitVec 32 := 1#32
  let v277 : BitVec 32 := Scalar.subi arg0 c1_i32_96
  let c2160_i32_110 : BitVec 32 := 2160#32
  let c0_i32_111 : BitVec 32 := 0#32
  ![v277.toNat, 2160, 0]
def k0_off57 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c2160_i32_112 : BitVec 32 := 2160#32
  let c0_i32_113 : BitVec 32 := 0#32
  ![v288.toNat, 2160, 0]
def k0_off58 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c2_i32_114 : BitVec 32 := 2#32
  ![v288.toNat, 2]
def k0_off59 (i : grid0.Coords) : Fin 3 → Nat :=
  let arg0 : BitVec 32 := BitVec.ofNat 32 (i 0).val
  let c1_i32_96 : BitVec 32 := 1#32
  let v277 : BitVec 32 := Scalar.subi arg0 c1_i32_96
  let c4320_i32_115 : BitVec 32 := 4320#32
  let c0_i32_116 : BitVec 32 := 0#32
  ![v277.toNat, 4320, 0]
def k0_off60 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c4320_i32_117 : BitVec 32 := 4320#32
  let c0_i32_118 : BitVec 32 := 0#32
  ![v288.toNat, 4320, 0]
def k0_off61 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c3_i32_119 : BitVec 32 := 3#32
  ![v288.toNat, 3]
def k0_off62 (i : grid0.Coords) : Fin 3 → Nat :=
  let arg0 : BitVec 32 := BitVec.ofNat 32 (i 0).val
  let c1_i32_96 : BitVec 32 := 1#32
  let v277 : BitVec 32 := Scalar.subi arg0 c1_i32_96
  let c6480_i32_120 : BitVec 32 := 6480#32
  let c0_i32_121 : BitVec 32 := 0#32
  ![v277.toNat, 6480, 0]
def k0_off63 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c6480_i32_122 : BitVec 32 := 6480#32
  let c0_i32_123 : BitVec 32 := 0#32
  ![v288.toNat, 6480, 0]
def k0_off64 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c4_i32_124 : BitVec 32 := 4#32
  ![v288.toNat, 4]
def k0_off65 (i : grid0.Coords) : Fin 3 → Nat :=
  let arg0 : BitVec 32 := BitVec.ofNat 32 (i 0).val
  let c1_i32_96 : BitVec 32 := 1#32
  let v277 : BitVec 32 := Scalar.subi arg0 c1_i32_96
  let c8640_i32_125 : BitVec 32 := 8640#32
  let c0_i32_126 : BitVec 32 := 0#32
  ![v277.toNat, 8640, 0]
def k0_off66 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c8640_i32_127 : BitVec 32 := 8640#32
  let c0_i32_128 : BitVec 32 := 0#32
  ![v288.toNat, 8640, 0]
def k0_off67 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c5_i32_129 : BitVec 32 := 5#32
  ![v288.toNat, 5]
def k0_off68 (i : grid0.Coords) : Fin 3 → Nat :=
  let arg0 : BitVec 32 := BitVec.ofNat 32 (i 0).val
  let c1_i32_96 : BitVec 32 := 1#32
  let v277 : BitVec 32 := Scalar.subi arg0 c1_i32_96
  let c10800_i32_130 : BitVec 32 := 10800#32
  let c0_i32_131 : BitVec 32 := 0#32
  ![v277.toNat, 10800, 0]
def k0_off69 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c10800_i32_132 : BitVec 32 := 10800#32
  let c0_i32_133 : BitVec 32 := 0#32
  ![v288.toNat, 10800, 0]
def k0_off70 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c6_i32_134 : BitVec 32 := 6#32
  ![v288.toNat, 6]
def k0_off71 (i : grid0.Coords) : Fin 3 → Nat :=
  let arg0 : BitVec 32 := BitVec.ofNat 32 (i 0).val
  let c1_i32_96 : BitVec 32 := 1#32
  let v277 : BitVec 32 := Scalar.subi arg0 c1_i32_96
  let c12960_i32_135 : BitVec 32 := 12960#32
  let c0_i32_136 : BitVec 32 := 0#32
  ![v277.toNat, 12960, 0]
def k0_off72 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c12960_i32_137 : BitVec 32 := 12960#32
  let c0_i32_138 : BitVec 32 := 0#32
  ![v288.toNat, 12960, 0]
def k0_off73 (i : grid0.Coords) : Fin 2 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c7_i32_139 : BitVec 32 := 7#32
  ![v288.toNat, 7]
def k0_off74 (i : grid0.Coords) : Fin 3 → Nat :=
  let arg0 : BitVec 32 := BitVec.ofNat 32 (i 0).val
  let c1_i32_96 : BitVec 32 := 1#32
  let v277 : BitVec 32 := Scalar.subi arg0 c1_i32_96
  let c15120_i32_140 : BitVec 32 := 15120#32
  let c0_i32_141 : BitVec 32 := 0#32
  ![v277.toNat, 15120, 0]
def k0_off75 (i : grid0.Coords) : Fin 3 → Nat :=
  let arg0 : BitVec 32 := BitVec.ofNat 32 (i 0).val
  let c1_i32_97 : BitVec 32 := 1#32
  let v278 : BitVec 32 := Scalar.subi arg0 c1_i32_97
  let c2_i32_98 : BitVec 32 := 2#32
  let c0_i32_99 : BitVec 32 := 0#32
  let v279 : BitVec 1 := Scalar.cmpi .eq c2_i32_98 c0_i32_99
  let c1_i32_100 : BitVec 32 := 1#32
  let v280 : BitVec 32 := Scalar.select v279 c1_i32_100 c2_i32_98
  let v281 : BitVec 32 := Scalar.remsi v278 v280
  let c0_i32_102 : BitVec 32 := 0#32
  let v283 : BitVec 1 := Scalar.cmpi .slt v281 c0_i32_102
  let c0_i32_103 : BitVec 32 := 0#32
  let v284 : BitVec 1 := Scalar.cmpi .slt v280 c0_i32_103
  let v285 : BitVec 1 := Scalar.xori v283 v284
  let c0_i32_101 : BitVec 32 := 0#32
  let v282 : BitVec 1 := Scalar.cmpi .ne v281 c0_i32_101
  let v286 : BitVec 1 := Scalar.andi v285 v282
  let v287 : BitVec 32 := Scalar.addi v281 v280
  let v288 : BitVec 32 := Scalar.select v286 v287 v281
  let c15120_i32_142 : BitVec 32 := 15120#32
  let c0_i32_143 : BitVec 32 := 0#32
  ![v288.toNat, 15120, 0]
def k0_off76 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_144 : BitVec 32 := 0#32
  ![v9.toNat, 0]
def k0_off77 (i : grid0.Coords) : Fin 3 → Nat :=
  let arg0 : BitVec 32 := BitVec.ofNat 32 (i 0).val
  let c0_i32_145 : BitVec 32 := 0#32
  let c0_i32_146 : BitVec 32 := 0#32
  ![arg0.toNat, 0, 0]
def k0_off78 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_147 : BitVec 32 := 0#32
  let c0_i32_148 : BitVec 32 := 0#32
  ![v9.toNat, 0, 0]
def k0_off79 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_149 : BitVec 32 := 1#32
  ![v9.toNat, 1]
def k0_off80 (i : grid0.Coords) : Fin 3 → Nat :=
  let arg0 : BitVec 32 := BitVec.ofNat 32 (i 0).val
  let c2160_i32_150 : BitVec 32 := 2160#32
  let c0_i32_151 : BitVec 32 := 0#32
  ![arg0.toNat, 2160, 0]
def k0_off81 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2160_i32_152 : BitVec 32 := 2160#32
  let c0_i32_153 : BitVec 32 := 0#32
  ![v9.toNat, 2160, 0]
def k0_off82 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_154 : BitVec 32 := 2#32
  ![v9.toNat, 2]
def k0_off83 (i : grid0.Coords) : Fin 3 → Nat :=
  let arg0 : BitVec 32 := BitVec.ofNat 32 (i 0).val
  let c4320_i32_155 : BitVec 32 := 4320#32
  let c0_i32_156 : BitVec 32 := 0#32
  ![arg0.toNat, 4320, 0]
def k0_off84 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4320_i32_157 : BitVec 32 := 4320#32
  let c0_i32_158 : BitVec 32 := 0#32
  ![v9.toNat, 4320, 0]
def k0_off85 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_159 : BitVec 32 := 3#32
  ![v9.toNat, 3]
def k0_off86 (i : grid0.Coords) : Fin 3 → Nat :=
  let arg0 : BitVec 32 := BitVec.ofNat 32 (i 0).val
  let c6480_i32_160 : BitVec 32 := 6480#32
  let c0_i32_161 : BitVec 32 := 0#32
  ![arg0.toNat, 6480, 0]
def k0_off87 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6480_i32_162 : BitVec 32 := 6480#32
  let c0_i32_163 : BitVec 32 := 0#32
  ![v9.toNat, 6480, 0]
def k0_off88 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_164 : BitVec 32 := 4#32
  ![v9.toNat, 4]
def k0_off89 (i : grid0.Coords) : Fin 3 → Nat :=
  let arg0 : BitVec 32 := BitVec.ofNat 32 (i 0).val
  let c8640_i32_165 : BitVec 32 := 8640#32
  let c0_i32_166 : BitVec 32 := 0#32
  ![arg0.toNat, 8640, 0]
def k0_off90 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8640_i32_167 : BitVec 32 := 8640#32
  let c0_i32_168 : BitVec 32 := 0#32
  ![v9.toNat, 8640, 0]
def k0_off91 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32_169 : BitVec 32 := 5#32
  ![v9.toNat, 5]
def k0_off92 (i : grid0.Coords) : Fin 3 → Nat :=
  let arg0 : BitVec 32 := BitVec.ofNat 32 (i 0).val
  let c10800_i32_170 : BitVec 32 := 10800#32
  let c0_i32_171 : BitVec 32 := 0#32
  ![arg0.toNat, 10800, 0]
def k0_off93 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10800_i32_172 : BitVec 32 := 10800#32
  let c0_i32_173 : BitVec 32 := 0#32
  ![v9.toNat, 10800, 0]
def k0_off94 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32_174 : BitVec 32 := 6#32
  ![v9.toNat, 6]
def k0_off95 (i : grid0.Coords) : Fin 3 → Nat :=
  let arg0 : BitVec 32 := BitVec.ofNat 32 (i 0).val
  let c12960_i32_175 : BitVec 32 := 12960#32
  let c0_i32_176 : BitVec 32 := 0#32
  ![arg0.toNat, 12960, 0]
def k0_off96 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12960_i32_177 : BitVec 32 := 12960#32
  let c0_i32_178 : BitVec 32 := 0#32
  ![v9.toNat, 12960, 0]
def k0_off97 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32_179 : BitVec 32 := 7#32
  ![v9.toNat, 7]
def k0_off98 (i : grid0.Coords) : Fin 3 → Nat :=
  let arg0 : BitVec 32 := BitVec.ofNat 32 (i 0).val
  let c15120_i32_180 : BitVec 32 := 15120#32
  let c0_i32_181 : BitVec 32 := 0#32
  ![arg0.toNat, 15120, 0]
def k0_off99 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15120_i32_182 : BitVec 32 := 15120#32
  let c0_i32_183 : BitVec 32 := 0#32
  ![v9.toNat, 15120, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x85x5776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S16x255x76x76 : Shape := ⟨4, ![16, 255, 76, 76]⟩
abbrev S3x2 : Shape := ⟨2, ![3, 2]⟩
abbrev S16x3x85x76x76 : Shape := ⟨5, ![16, 3, 85, 76, 76]⟩
abbrev S16x3x76x76x85 : Shape := ⟨5, ![16, 3, 76, 76, 85]⟩
abbrev S16x3x76x76x1 : Shape := ⟨5, ![16, 3, 76, 76, 1]⟩
abbrev S16x3x76x76 : Shape := ⟨4, ![16, 3, 76, 76]⟩
abbrev S_ : Shape := ⟨0, ![]⟩
abbrev S16x3x76x76x80 : Shape := ⟨5, ![16, 3, 76, 76, 80]⟩
abbrev S76 : Shape := ⟨1, ![76]⟩
abbrev S1x76 : Shape := ⟨2, ![1, 76]⟩
abbrev S1x1x1x76 : Shape := ⟨4, ![1, 1, 1, 76]⟩
abbrev S76x1x1x76 : Shape := ⟨4, ![76, 1, 1, 76]⟩
abbrev S76x76 : Shape := ⟨2, ![76, 76]⟩
abbrev S1x1x76x76 : Shape := ⟨4, ![1, 1, 76, 76]⟩
abbrev S3x1 : Shape := ⟨2, ![3, 1]⟩
abbrev S3 : Shape := ⟨1, ![3]⟩
abbrev S1x3x1x1 : Shape := ⟨4, ![1, 3, 1, 1]⟩
abbrev S16x3x76x76x4 : Shape := ⟨5, ![16, 3, 76, 76, 4]⟩
abbrev S16x17328x4 : Shape := ⟨3, ![16, 17328, 4]⟩
abbrev S16x17328x1 : Shape := ⟨3, ![16, 17328, 1]⟩
abbrev S16x17328x80 : Shape := ⟨3, ![16, 17328, 80]⟩
abbrev S16x17328x85 : Shape := ⟨3, ![16, 17328, 85]⟩

abbrev nBuf : Space → Nat
  | .hbm => 91
  | .vmem => 0
  | .smem => 0
  | _ => 0

abbrev bufTy : (tb : Table) → Fin (tcTables nBuf tb) → BufTy
  | .hbm, ⟨0, _⟩ => ⟨S16x255x76x76, .f32⟩
  | .hbm, ⟨1, _⟩ => ⟨S3x2, .f32⟩
  | .hbm, ⟨2, _⟩ => ⟨S16x3x85x76x76, .f32⟩
  | .hbm, ⟨3, _⟩ => ⟨S16x3x76x76x85, .f32⟩
  | .hbm, ⟨4, _⟩ => ⟨S16x3x76x76x1, .f32⟩
  | .hbm, ⟨5, _⟩ => ⟨S16x3x76x76, .f32⟩
  | .hbm, ⟨6, _⟩ => ⟨S16x3x76x76, .f32⟩
  | .hbm, ⟨7, _⟩ => ⟨S16x3x76x76, .f32⟩
  | .hbm, ⟨8, _⟩ => ⟨S_, .f32⟩
  | .hbm, ⟨9, _⟩ => ⟨S16x3x76x76, .f32⟩
  | .hbm, ⟨10, _⟩ => ⟨S16x3x76x76, .f32⟩
  | .hbm, ⟨11, _⟩ => ⟨S_, .f32⟩
  | .hbm, ⟨12, _⟩ => ⟨S16x3x76x76, .f32⟩
  | .hbm, ⟨13, _⟩ => ⟨S16x3x76x76, .f32⟩
  | .hbm, ⟨14, _⟩ => ⟨S16x3x76x76x1, .f32⟩
  | .hbm, ⟨15, _⟩ => ⟨S16x3x76x76, .f32⟩
  | .hbm, ⟨16, _⟩ => ⟨S16x3x76x76, .f32⟩
  | .hbm, ⟨17, _⟩ => ⟨S16x3x76x76, .f32⟩
  | .hbm, ⟨18, _⟩ => ⟨S_, .f32⟩
  | .hbm, ⟨19, _⟩ => ⟨S16x3x76x76, .f32⟩
  | .hbm, ⟨20, _⟩ => ⟨S16x3x76x76, .f32⟩
  | .hbm, ⟨21, _⟩ => ⟨S_, .f32⟩
  | .hbm, ⟨22, _⟩ => ⟨S16x3x76x76, .f32⟩
  | .hbm, ⟨23, _⟩ => ⟨S16x3x76x76, .f32⟩
  | .hbm, ⟨24, _⟩ => ⟨S16x3x76x76x1, .f32⟩
  | .hbm, ⟨25, _⟩ => ⟨S16x3x76x76, .f32⟩
  | .hbm, ⟨26, _⟩ => ⟨S16x3x76x76, .f32⟩
  | .hbm, ⟨27, _⟩ => ⟨S16x3x76x76, .f32⟩
  | .hbm, ⟨28, _⟩ => ⟨S_, .f32⟩
  | .hbm, ⟨29, _⟩ => ⟨S16x3x76x76, .f32⟩
  | .hbm, ⟨30, _⟩ => ⟨S16x3x76x76, .f32⟩
  | .hbm, ⟨31, _⟩ => ⟨S_, .f32⟩
  | .hbm, ⟨32, _⟩ => ⟨S16x3x76x76, .f32⟩
  | .hbm, ⟨33, _⟩ => ⟨S16x3x76x76, .f32⟩
  | .hbm, ⟨34, _⟩ => ⟨S16x3x76x76x80, .f32⟩
  | .hbm, ⟨35, _⟩ => ⟨S16x3x76x76x80, .f32⟩
  | .hbm, ⟨36, _⟩ => ⟨S16x3x76x76x80, .f32⟩
  | .hbm, ⟨37, _⟩ => ⟨S_, .f32⟩
  | .hbm, ⟨38, _⟩ => ⟨S16x3x76x76x80, .f32⟩
  | .hbm, ⟨39, _⟩ => ⟨S16x3x76x76x80, .f32⟩
  | .hbm, ⟨40, _⟩ => ⟨S_, .f32⟩
  | .hbm, ⟨41, _⟩ => ⟨S16x3x76x76x80, .f32⟩
  | .hbm, ⟨42, _⟩ => ⟨S16x3x76x76x80, .f32⟩
  | .hbm, ⟨43, _⟩ => ⟨S76, .f32⟩
  | .hbm, ⟨44, _⟩ => ⟨S1x76, .f32⟩
  | .hbm, ⟨45, _⟩ => ⟨S1x1x1x76, .f32⟩
  | .hbm, ⟨46, _⟩ => ⟨S76x1x1x76, .f32⟩
  | .hbm, ⟨47, _⟩ => ⟨S76x76, .f32⟩
  | .hbm, ⟨48, _⟩ => ⟨S1x1x76x76, .f32⟩
  | .hbm, ⟨49, _⟩ => ⟨S1x76, .f32⟩
  | .hbm, ⟨50, _⟩ => ⟨S1x1x1x76, .f32⟩
  | .hbm, ⟨51, _⟩ => ⟨S76x1x1x76, .f32⟩
  | .hbm, ⟨52, _⟩ => ⟨S76x76, .f32⟩
  | .hbm, ⟨53, _⟩ => ⟨S76x76, .f32⟩
  | .hbm, ⟨54, _⟩ => ⟨S1x1x76x76, .f32⟩
  | .hbm, ⟨55, _⟩ => ⟨S_, .f32⟩
  | .hbm, ⟨56, _⟩ => ⟨S3x2, .f32⟩
  | .hbm, ⟨57, _⟩ => ⟨S3x2, .f32⟩
  | .hbm, ⟨58, _⟩ => ⟨S3x1, .f32⟩
  | .hbm, ⟨59, _⟩ => ⟨S3, .f32⟩
  | .hbm, ⟨60, _⟩ => ⟨S1x3x1x1, .f32⟩
  | .hbm, ⟨61, _⟩ => ⟨S3x1, .f32⟩
  | .hbm, ⟨62, _⟩ => ⟨S3, .f32⟩
  | .hbm, ⟨63, _⟩ => ⟨S1x3x1x1, .f32⟩
  | .hbm, ⟨64, _⟩ => ⟨S16x3x76x76, .f32⟩
  | .hbm, ⟨65, _⟩ => ⟨S16x3x76x76, .f32⟩
  | .hbm, ⟨66, _⟩ => ⟨S16x3x76x76, .f32⟩
  | .hbm, ⟨67, _⟩ => ⟨S16x3x76x76, .f32⟩
  | .hbm, ⟨68, _⟩ => ⟨S16x3x76x76x1, .f32⟩
  | .hbm, ⟨69, _⟩ => ⟨S16x3x76x76, .f32⟩
  | .hbm, ⟨70, _⟩ => ⟨S16x3x76x76, .f32⟩
  | .hbm, ⟨71, _⟩ => ⟨S16x3x76x76, .f32⟩
  | .hbm, ⟨72, _⟩ => ⟨S16x3x76x76, .f32⟩
  | .hbm, ⟨73, _⟩ => ⟨S16x3x76x76x1, .f32⟩
  | .hbm, ⟨74, _⟩ => ⟨S16x3x76x76, .f32⟩
  | .hbm, ⟨75, _⟩ => ⟨S16x3x76x76, .f32⟩
  | .hbm, ⟨76, _⟩ => ⟨S16x3x76x76, .f32⟩
  | .hbm, ⟨77, _⟩ => ⟨S16x3x76x76, .f32⟩
  | .hbm, ⟨78, _⟩ => ⟨S16x3x76x76x1, .f32⟩
  | .hbm, ⟨79, _⟩ => ⟨S16x3x76x76x1, .f32⟩
  | .hbm, ⟨80, _⟩ => ⟨S16x3x76x76x1, .f32⟩
  | .hbm, ⟨81, _⟩ => ⟨S16x3x76x76x1, .f32⟩
  | .hbm, ⟨82, _⟩ => ⟨S16x3x76x76x4, .f32⟩
  | .hbm, ⟨83, _⟩ => ⟨S16x17328x4, .f32⟩
  | .hbm, ⟨84, _⟩ => ⟨S_, .f32⟩
  | .hbm, ⟨85, _⟩ => ⟨S16x17328x4, .f32⟩
  | .hbm, ⟨86, _⟩ => ⟨S16x17328x4, .f32⟩
  | .hbm, ⟨87, _⟩ => ⟨S16x17328x1, .f32⟩
  | .hbm, ⟨88, _⟩ => ⟨S16x17328x80, .f32⟩
  | .hbm, ⟨89, _⟩ => ⟨S16x17328x85, .f32⟩
  | .hbm, ⟨90, _⟩ => ⟨S_, .i32⟩
  | _, _ => ⟨S16x255x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_cst_7 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_8 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_9 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_c : Ref sig .tc := ⟨.hbm, 90, rfl⟩

abbrev nD : Nat := 1
abbrev τ : Topo := Topo.v7x

variable {F : FTy → Type} [FloatOps F]
-- ==== Proof.Steps.lean ====
module

public import proofs.«01_k».proof.Proof.Gen.KernelIdeal.Points
public import proofs.«01_k».proof.Proof.Gen.KernelIdeal.Frame
public import proofs.«01_k».proof.Proof.Gen.KernelIdeal.Skeleton
public import Idealize.ShloMosaic.Lib.Pipeline.FrameSuffixV
public import Idealize.ShloMosaic.Lib.Ring.WriteBehind
public import Idealize.ShloMosaic.Lib.Transfers

@[expose] public section

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which rows a copy moves -/

/-- The copy that moves row `r` of the 17328: seven copies of 2160 rows, the eighth of the 2208 left. -/
def chunk (r : ℕ) : ℕ := min (r / 2160) 7

/-- How many rows copy `k` moves. -/
def rows (k : Fin 8) : ℕ := if k.val = 7 then 2208 else 2160

/-- Slot `g` of the two-slot buffer. -/
def slab (g : Fin 2) : Finset S2x17328x85.Idx := Finset.univ.filter fun x => (x 0).val = g.val
/-- The rows copy `k` reads in slot `g`. -/
def tile (g : Fin 2) (k : Fin 8) : Finset S2x17328x85.Idx := Finset.univ.filter fun x => (x 0).val = g.val ∧ chunk (x 1).val = k.val
/-- The rows copy `k` of step `u` writes in the result. -/
def piece (u : Fin 16) (k : Fin 8) : Finset S16x17328x85.Idx := Finset.univ.filter fun x => (x 0).val = u.val ∧ chunk (x 1).val = k.val

theorem chunk_iff (k : Fin 8) (r : ℕ) (hr : r < 17328) : chunk r = k.val ↔ 2160 * k.val ≤ r ∧ r < 2160 * k.val + rows k := by
  have hk := k.isLt
  unfold chunk rows
  split <;> omega

abbrev scrM : Memref sig .tc .vmem S2x17328x85 .f32 := Memref.whole cc0_scratch0
abbrev outM : Memref sig .tc .hbm S16x17328x85 .f32 := Memref.whole main_v1

/-- The box of `R` rows as printed, and the same box with the axis of extent one dropped. -/
abbrev Box (R : ℕ) : Shape := ⟨3, ![1, R, 85]⟩
abbrev Flat (R : ℕ) : Shape := ⟨2, ![R, 85]⟩

theorem tile_set (g : Fin 2) (k : Fin 8) {R : ℕ} (hR : R = rows k) {off : Fin 3 → ℕ} (ho : off = ![g.val, 2160 * k.val, 0])
    (h : ∀ a, off a + (Box R).size a ≤ S2x17328x85.size a) :
    (Rect.unit (s := S2x17328x85) off (Box R).size h).set = tile g k := by
  subst ho hR
  ext x
  have h1 : (x 1).val < 17328 := (x 1).isLt
  have h2 : (x 2).val < 85 := (x 2).isLt
  rw [Rect.mem_set_unit]
  simp only [tile, Finset.mem_filter, Finset.mem_univ, true_and, chunk_iff k _ h1, Fin.forall_fin_succ, IsEmpty.forall_iff, and_true]
  simp
  omega

theorem piece_set (u : Fin 16) (k : Fin 8) {R : ℕ} (hR : R = rows k) {off : Fin 3 → ℕ} (ho : off = ![u.val, 2160 * k.val, 0])
    (h : ∀ a, off a + (Box R).size a ≤ S16x17328x85.size a) :
    (Rect.unit (s := S16x17328x85) off (Box R).size h).set = piece u k := by
  subst ho hR
  ext x
  have h1 : (x 1).val < 17328 := (x 1).isLt
  have h2 : (x 2).val < 85 := (x 2).isLt
  rw [Rect.mem_set_unit]
  simp only [piece, Finset.mem_filter, Finset.mem_univ, true_and, chunk_iff k _ h1, Fin.forall_fin_succ, IsEmpty.forall_iff, and_true]
  simp
  omega

/-! ## The copies' cells -/

/-- The cell that copy `k` out of slot `g` signals. -/
def cell (g : Fin 2) (k : Fin 8) : DmaSem sig :=
  ((cc0_scratch1.slice (Rect.unit (s := S2x8) ![g.val, k.val] S1x1.size (by
    revert g k; decide))).squeeze S_ squeezes_S1x1_S_).sem

theorem cell_eq (g : Fin 2) (k : Fin 8) {off : Fin 2 → ℕ} (ho : off = ![g.val, k.val]) (h : ∀ a, off a + S1x1.size a ≤ S2x8.size a)
    (hs : S1x1.Squeezes S_) :
    ((cc0_scratch1.slice (Rect.unit (s := S2x8) off S1x1.size h)).squeeze S_ hs).sem = cell g k := by
  subst ho; rfl

/-- What a copy of `R` rows pays its cell. -/
def pay (R : ℕ) : ℕ := Ref.dmaCredit main_v1 (Flat R) .f32

theorem pay_pos (k : Fin 8) : 0 < pay (rows k) := by revert k; decide

/-! ## One copy, one wait -/

section Rules

variable (c : Dev nD) (𝒱 : Variants) (bd : Option 𝒱.V) {α : Type}

/-- The scratch buffer's elements `S` at contents `f`. -/
abbrev scr (S : Finset S2x17328x85.Idx) (f : S2x17328x85.Idx → F .f32) : sProp 𝕄 :=
  scrM.view.loc (c.tc : Thread nD τ) ↦[S]{fullShare} f
/-- The result's elements `S` at contents `f`. -/
abbrev out (S : Finset S16x17328x85.Idx) (f : S16x17328x85.Idx → F .f32) : sProp 𝕄 :=
  outM.view.loc (c.tc : Thread nD τ) ↦[S]{fullShare} f

/-- The core owes nothing, whatever its waits recorded. -/
def still : sProp 𝕄 := iprop(∃ W, owes (c.tc : Thread nD τ) 0 W)

/-- Copy `k` of step `u` out of slot `g`, under way: its wait hands back the result's rows at `G` and the slot's at `f`. -/
def away (g : Fin 2) (u : Fin 16) (k : Fin 8) (G : S16x17328x85.Idx → F .f32) (f : S2x17328x85.Idx → F .f32) : sProp 𝕄 :=
  Transfers.Flight countersEmb (c.tc : Thread nD τ) (SemLoc.dma (cell g k)) () (pay (rows k)) iprop(out c (piece u k) G ∗ scr c (tile g k) f)

/-- What the wait hands back, with the cell's count at zero. -/
abbrev back (g : Fin 2) (u : Fin 16) (k : Fin 8) (G : S16x17328x85.Idx → F .f32) (f : S2x17328x85.Idx → F .f32) : sProp 𝕄 :=
  iprop(iprop(out c (piece u k) G ∗ scr c (tile g k) f) ∗ semVal ((c.tc : Thread nD τ), SemLoc.dma (cell g k)) 0)

/-- The index of the scratch buffer a result's index is copied from, in slot `g`. -/
abbrev inSlot (g : Fin 2) (x : S16x17328x85.Idx) : S2x17328x85.Idx := Fin.cons g (Fin.cons (x 1) (Fin.cons (x 2) finZeroElim))

abbrev semArr : DmaSems sig S2x8 := cc0_scratch1

/-- Element `j` of the rows a copy writes is copied from the element of slot `g` in the same row and column. -/
theorem from_slot (g : Fin 2) (u : Fin 16) {R r : ℕ} {oD oS : Fin 3 → ℕ} (hD : oD = ![u.val, r, 0]) (hS : oS = ![g.val, r, 0])
    (iD : ∀ a, oD a + (Box R).size a ≤ S16x17328x85.size a) (iS : ∀ a, oS a + (Box R).size a ≤ S2x17328x85.size a)
    (q : (Box R).Squeezes (Flat R)) (j : (Flat R).Idx) :
    (((scrM.slice (Rect.unit (s := S2x17328x85) oS (Box R).size iS) (fun _ => rfl)).squeeze (Flat R) q).view).emb j
      = inSlot g ((((outM.slice (Rect.unit (s := S16x17328x85) oD (Box R).size iD) (fun _ => rfl)).squeeze (Flat R) q).view).emb j) := by
  subst hD hS
  generalize hz : Shape.reshapeEquiv (Shape.Squeezes.numel_eq q) j = z
  have h0 : (z 0).val = 0 := by have : (z 0).val < 1 := (z 0).isLt; omega
  have eS : (((scrM.slice (Rect.unit (s := S2x17328x85) ![g.val, r, 0] (Box R).size iS) (fun _ => rfl)).squeeze (Flat R) q).view).emb j
      = (Rect.unit (s := S2x17328x85) ![g.val, r, 0] (Box R).size iS).emb z := by rw [← hz]; rfl
  have eD : (((outM.slice (Rect.unit (s := S16x17328x85) ![u.val, r, 0] (Box R).size iD) (fun _ => rfl)).squeeze (Flat R) q).view).emb j
      = (Rect.unit (s := S16x17328x85) ![u.val, r, 0] (Box R).size iD).emb z := by rw [← hz]; rfl
  rw [eS, eD]
  funext a
  apply Fin.ext
  match a with
  | 0 => show g.val + 1 * (z 0).val = g.val; omega
  | 1 => rfl
  | 2 => rfl

set_option maxHeartbeats 1000000 in
/-- A copy's start: with the rows it reads at `f`, the rows it writes, and its cell's count at zero, the copy is under way,
    and lands what `f` holds in slot `g`. -/
theorem wp_start (Q : α → sProp 𝕄) (g : Fin 2) (u : Fin 16) (k : Fin 8) {R : ℕ} (hR : R = rows k)
    {o2 : Fin 2 → ℕ} {oD oS : Fin 3 → ℕ} (h2 : o2 = ![g.val, k.val]) (hD : oD = ![u.val, 2160 * k.val, 0]) (hS : oS = ![g.val, 2160 * k.val, 0])
    {i2 : ∀ a, o2 a + S1x1.size a ≤ S2x8.size a} {iD : ∀ a, oD a + (Box R).size a ≤ S16x17328x85.size a}
    {iS : ∀ a, oS a + (Box R).size a ≤ S2x17328x85.size a} {q2 : S1x1.Squeezes S_} {q : (Box R).Squeezes (Flat R)}
    {hw hw' hty} {kk : PUnit → Prog (TpuEff nD τ sig (Elt F) Λ₀ .tc) α}
    (G : S16x17328x85.Idx → F .f32) (f : S2x17328x85.Idx → F .f32) (fd : S16x17328x85.Idx → F .f32)
    (hG : ∀ x ∈ piece u k, G x = f (inSlot g x)) :
    iprop(scr c (tile g k) f ∗ out c (piece u k) fd ∗ semVal ((c.tc : Thread nD τ), SemLoc.dma (cell g k)) 0)
      ⊢ iprop((away c g u k G f -∗ wp frame (wpE (defs₀ (F := F)) 𝒱 (c.tc : Thread nD τ) bd) Set.univ (kk ⟨⟩) Q)
          -∗ wp frame (wpE (defs₀ (F := F)) 𝒱 (c.tc : Thread nD τ) bd) Set.univ
              (.op (.enqueueDma ((scrM.slice (Rect.unit (s := S2x17328x85) oS (Box R).size iS) (fun _ => rfl)).squeeze (Flat R) q)
                (.here ((outM.slice (Rect.unit (s := S16x17328x85) oD (Box R).size iD) (fun _ => rfl)).squeeze (Flat R) q))
                (.dma ((semArr.slice (Rect.unit (s := S2x8) o2 S1x1.size i2)).squeeze S_ q2).sem) hw hw' hty) kk) Q) := by
  have hsS : (((scrM.slice (Rect.unit (s := S2x17328x85) oS (Box R).size iS) (fun _ => rfl)).squeeze (Flat R) q).view).set = tile g k := by
    rw [View.set_reshape, View.set_slice_whole]; exact tile_set g k hR hS iS
  have hsD : (((outM.slice (Rect.unit (s := S16x17328x85) oD (Box R).size iD) (fun _ => rfl)).squeeze (Flat R) q).view).set = piece u k := by
    rw [View.set_reshape, View.set_slice_whole]; exact piece_set u k hR hD iD
  have hc := cell_eq g k h2 i2 q2
  iintro ⟨Hs, Hd, Hv⟩ Hk
  iapply (Transfers.wp_dmaLocal countersEmb 𝒱 (c.tc : Thread nD τ) bd
    (src := (scrM.slice (Rect.unit (s := S2x17328x85) oS (Box R).size iS) (fun _ => rfl)).squeeze (Flat R) q)
    (dst := (outM.slice (Rect.unit (s := S16x17328x85) oD (Box R).size iD) (fun _ => rfl)).squeeze (Flat R) q)
    (q := fullShare) (fs := f) (fd := fd) (Sd := piece u k) () (pay (rows k)) (by subst hR; rfl) (pay_pos k) (by rw [hsD])) $$ [Hs Hd Hv]
  · rw [hsS, hc]
    isplitl [Hs]; · iexact Hs
    isplitl [Hd]; · iexact Hd
    iexact Hv
  iintro Hf
  iapply Hk
  rw [hsS, hc]
  unfold away
  iapply (Transfers.Flight_mono countersEmb (c.tc : Thread nD τ) (sep_mono (Entails.of_eq (pointsTo_congr (fun x hx => ?_))) .rfl)) $$ Hf
  rw [← hsD] at hx
  obtain ⟨j, -, rfl⟩ := Finset.mem_map.mp hx
  rw [hG _ (hsD ▸ hx), View.write_emb_of_mem _ _ (Finset.mem_univ j)]
  show f _ = f _
  congr 1
  exact from_slot g u hD hS iD iS q j

set_option maxHeartbeats 1000000 in
/-- A copy's wait: the wait names the copy's cell and as many rows as it moved; the rows come back and the cell's count is zero. -/
theorem wp_back (Q : α → sProp 𝕄) (g : Fin 2) (u : Fin 16) (k : Fin 8) {R : ℕ} (hR : R = rows k) {o2 : Fin 2 → ℕ} (h2 : o2 = ![g.val, k.val])
    {i2 : ∀ a, o2 a + S1x1.size a ≤ S2x8.size a} {q2 : S1x1.Squeezes S_}
    {oD oS : Fin 3 → ℕ} {iD : ∀ a, oD a + (Box R).size a ≤ S16x17328x85.size a}
    {iS : ∀ a, oS a + (Box R).size a ≤ S2x17328x85.size a} {q : (Box R).Squeezes (Flat R)} {hw hw'}
    {kk : PUnit → Prog (TpuEff nD τ sig (Elt F) Λ₀ .tc) α} (G : S16x17328x85.Idx → F .f32) (f : S2x17328x85.Idx → F .f32) :
    iprop(away c g u k G f ∗ still c)
      ⊢ iprop((iprop(back c g u k G f ∗ still c)
            -∗ wp frame (wpE (defs₀ (F := F)) 𝒱 (c.tc : Thread nD τ) bd) Set.univ (kk ⟨⟩) Q)
          -∗ wp frame (wpE (defs₀ (F := F)) 𝒱 (c.tc : Thread nD τ) bd) Set.univ
              (.op (.waitDma2 ((semArr.slice (Rect.unit (s := S2x8) o2 S1x1.size i2)).squeeze S_ q2).sem
                ((scrM.slice (Rect.unit (s := S2x17328x85) oS (Box R).size iS) (fun _ => rfl)).squeeze (Flat R) q)
                ((outM.slice (Rect.unit (s := S16x17328x85) oD (Box R).size iD) (fun _ => rfl)).squeeze (Flat R) q) hw hw') kk) Q) := by
  have hc := cell_eq g k h2 i2 q2
  unfold still away
  iintro ⟨Hf, %W, HO⟩ Hk
  rw [hc]
  iapply (Transfers.wp_waitLocal countersEmb 𝒱 (c.tc : Thread nD τ) bd
    (srcw := (scrM.slice (Rect.unit (s := S2x17328x85) oS (Box R).size iS) (fun _ => rfl)).squeeze (Flat R) q)
    (dstw := (outM.slice (Rect.unit (s := S16x17328x85) oD (Box R).size iD) (fun _ => rfl)).squeeze (Flat R) q)
    (hsrc := hw) (hdst := hw') () (N := pay (rows k)) (by subst hR; rfl)) $$ [Hf HO]
  · isplitl [Hf]; · iexact Hf
    iexact HO
  iintro ⟨HD, Hv, HO⟩
  iapply Hk
  isplitl [HD Hv]
  · isplitl [HD]; · iexact HD
    iexact Hv
  iexists _
  iexact HO

/-! ## The eight together -/

/-- Eight resources, one a copy. -/
abbrev all8 (P : Fin 8 → sProp 𝕄) : sProp 𝕄 := iprop(P 0 ∗ P 1 ∗ P 2 ∗ P 3 ∗ P 4 ∗ P 5 ∗ P 6 ∗ P 7)

theorem all8_eq (P : Fin 8 → sProp 𝕄) : bigSep Finset.univ P = all8 P := by
  rw [BI.bigSep_eq_bigSepL_of_eq [0, 1, 2, 3, 4, 5, 6, 7] (by decide) (by decide)]; rfl

theorem chunk_lt (r : ℕ) : chunk r < 8 := by unfold chunk; omega

/-- A slot is its eight copies' rows. -/
theorem slab_eq (g : Fin 2) : slab g = Finset.univ.biUnion (tile g) := by
  ext x
  simp only [slab, tile, Finset.mem_filter, Finset.mem_univ, true_and, Finset.mem_biUnion]
  exact ⟨fun h => ⟨⟨chunk (x 1).val, chunk_lt _⟩, h, rfl⟩, fun ⟨_, h, _⟩ => h⟩

theorem tile_disjoint (g : Fin 2) (k k' : Fin 8) (h : k ≠ k') : Disjoint (tile g k) (tile g k') := by
  rw [Finset.disjoint_left]
  intro x hx hx'
  simp only [tile, Finset.mem_filter, Finset.mem_univ, true_and] at hx hx'
  exact h (Fin.ext (hx.2.symm.trans hx'.2))

theorem piece_disjoint (u : Fin 16) (k k' : Fin 8) (h : k ≠ k') : Disjoint (piece u k) (piece u k') := by
  rw [Finset.disjoint_left]
  intro x hx hx'
  simp only [piece, Finset.mem_filter, Finset.mem_univ, true_and] at hx hx'
  exact h (Fin.ext (hx.2.symm.trans hx'.2))

/-- A slot held is its eight copies' rows held. -/
theorem scr_slab (g : Fin 2) (f : S2x17328x85.Idx → F .f32) : scr c (slab g) f = all8 fun k => scr c (tile g k) f := by
  rw [← all8_eq, slab_eq]
  exact pointsTo_biUnion _ _ fun k _ k' _ h => tile_disjoint g k k' h

/-- The rows of the result that step `u` writes. -/
def sheet (u : Fin 16) : Finset S16x17328x85.Idx := Finset.univ.biUnion (piece u)

theorem mem_sheet (u : Fin 16) (x : S16x17328x85.Idx) : x ∈ sheet u ↔ (x 0).val = u.val := by
  simp only [sheet, piece, Finset.mem_filter, Finset.mem_univ, true_and, Finset.mem_biUnion]
  exact ⟨fun ⟨_, h, _⟩ => h, fun h => ⟨⟨chunk (x 1).val, chunk_lt _⟩, h, rfl⟩⟩

theorem out_sheet (u : Fin 16) (f : S16x17328x85.Idx → F .f32) : out c (sheet u) f = all8 fun k => out c (piece u k) f := by
  rw [← all8_eq, sheet]
  exact pointsTo_biUnion _ _ fun k _ k' _ h => piece_disjoint u k k' h

/-- The result held whole is its sixteen steps' rows held. -/
theorem out_univ (f : S16x17328x85.Idx → F .f32) : out c Finset.univ f = bigSep Finset.univ fun u => out c (sheet u) f := by
  have h : (Finset.univ : Finset S16x17328x85.Idx) = Finset.univ.biUnion sheet := by
    ext x
    simp only [Finset.mem_univ, Finset.mem_biUnion, true_and, true_iff]
    exact ⟨⟨(x 0).val, (x 0).isLt⟩, (mem_sheet _ x).mpr rfl⟩
  unfold out
  rw [h]
  refine pointsTo_biUnion _ _ fun u _ u' _ h => Finset.disjoint_left.mpr fun x hx hx' => h (Fin.ext ?_)
  exact ((mem_sheet u x).mp hx).symm.trans ((mem_sheet u' x).mp hx')

theorem scr_univ (f : S2x17328x85.Idx → F .f32) : scr c Finset.univ f = iprop(scr c (slab 0) f ∗ scr c (slab 1) f) := by
  have h : (Finset.univ : Finset S2x17328x85.Idx) = Finset.univ.biUnion slab := by
    ext x
    simp only [Finset.mem_univ, Finset.mem_biUnion, true_and, true_iff]
    exact ⟨⟨(x 0).val, (x 0).isLt⟩, by simp [slab]⟩
  unfold scr
  rw [h, pointsTo_biUnion _ _ (fun u _ u' _ h => Finset.disjoint_left.mpr fun x hx hx' => h (Fin.ext (by
      simp only [slab, Finset.mem_filter, Finset.mem_univ, true_and] at hx hx'
      exact hx.symm.trans hx'))),
    BI.bigSep_eq_bigSepL_of_eq [0, 1] (by decide) (by decide)]
  rfl

end Rules

end Cert.KernelIdeal.Out
end
-- ==== Proof.Offsets.lean ====
module

public import proofs.«01_k».proof.Proof.Steps

@[expose] public section

noncomputable section

namespace Cert.KernelIdeal.Out

open Cert.KernelIdeal Cert.KernelIdeal.Gen
open Idealize.ShloMosaic Idealize.ShloMosaic.TcCoe

/-! ## Where each operation of step `i` lies -/

/-- The slot step `i` fills, and the other one. -/
def slotOf (i : grid0.Coords) : Fin 2 := ⟨(i 0).val % 2, Nat.mod_lt _ (by decide)⟩
def other (i : grid0.Coords) : Fin 2 := ⟨((i 0).val + 1) % 2, Nat.mod_lt _ (by decide)⟩
/-- The step as a plane of the result. -/
def stepOf (i : grid0.Coords) : Fin 16 := ⟨(i 0).val, (i 0).isLt⟩

/-- The step waits for its slot's earlier copies from step 2 on. -/
theorem waits_iff : ∀ i : grid0.Coords, k0_cond1 i = 1#1 ↔ 2 ≤ (i 0).val := by decide
/-- The last step is the one that waits for every copy left. -/
theorem drains_iff : ∀ i : grid0.Coords, k0_cond2 i = 1#1 ↔ (i 0).val = 15 := by decide

/-- The cells of the eight waits before the slot is filled again. -/
theorem wait_cells : ∀ i : grid0.Coords, k0_cond1 i = 1#1 →
    k0_off1 i = ![(i 0).val % 2, 0] ∧ k0_off4 i = ![(i 0).val % 2, 1] ∧ k0_off7 i = ![(i 0).val % 2, 2] ∧ k0_off10 i = ![(i 0).val % 2, 3]
    ∧ k0_off13 i = ![(i 0).val % 2, 4] ∧ k0_off16 i = ![(i 0).val % 2, 5] ∧ k0_off19 i = ![(i 0).val % 2, 6] ∧ k0_off22 i = ![(i 0).val % 2, 7] := by
  decide

/-- The rows of the three stores. -/
theorem store_rows : ∀ i : grid0.Coords, k0_off25 i = ![(i 0).val % 2, 0, 0] ∧ k0_off26 i = ![(i 0).val % 2, 5776, 0]
    ∧ k0_off27 i = ![(i 0).val % 2, 11552, 0] := by
  decide

/-- The cells of the eight copies started. -/
theorem start_cells : ∀ i : grid0.Coords,
    k0_off28 i = ![(i 0).val % 2, 0] ∧ k0_off31 i = ![(i 0).val % 2, 1] ∧ k0_off34 i = ![(i 0).val % 2, 2] ∧ k0_off37 i = ![(i 0).val % 2, 3]
    ∧ k0_off40 i = ![(i 0).val % 2, 4] ∧ k0_off43 i = ![(i 0).val % 2, 5] ∧ k0_off46 i = ![(i 0).val % 2, 6] ∧ k0_off49 i = ![(i 0).val % 2, 7] := by
  decide

/-- The rows of the result they write. -/
theorem start_to : ∀ i : grid0.Coords,
    k0_off29 i = ![(i 0).val, 0, 0] ∧ k0_off32 i = ![(i 0).val, 2160, 0] ∧ k0_off35 i = ![(i 0).val, 4320, 0] ∧ k0_off38 i = ![(i 0).val, 6480, 0]
    ∧ k0_off41 i = ![(i 0).val, 8640, 0] ∧ k0_off44 i = ![(i 0).val, 10800, 0] ∧ k0_off47 i = ![(i 0).val, 12960, 0] ∧ k0_off50 i = ![(i 0).val, 15120, 0] := by
  decide

/-- The rows of the slot they read. -/
theorem start_from : ∀ i : grid0.Coords,
    k0_off30 i = ![(i 0).val % 2, 0, 0] ∧ k0_off33 i = ![(i 0).val % 2, 2160, 0] ∧ k0_off36 i = ![(i 0).val % 2, 4320, 0] ∧ k0_off39 i = ![(i 0).val % 2, 6480, 0]
    ∧ k0_off42 i = ![(i 0).val % 2, 8640, 0] ∧ k0_off45 i = ![(i 0).val % 2, 10800, 0] ∧ k0_off48 i = ![(i 0).val % 2, 12960, 0] ∧ k0_off51 i = ![(i 0).val % 2, 15120, 0] := by
  decide

/-- The cells of the last step's waits for the other slot's copies. -/
theorem drain_other : ∀ i : grid0.Coords, k0_cond2 i = 1#1 →
    k0_off52 i = ![((i 0).val + 1) % 2, 0] ∧ k0_off55 i = ![((i 0).val + 1) % 2, 1] ∧ k0_off58 i = ![((i 0).val + 1) % 2, 2] ∧ k0_off61 i = ![((i 0).val + 1) % 2, 3]
    ∧ k0_off64 i = ![((i 0).val + 1) % 2, 4] ∧ k0_off67 i = ![((i 0).val + 1) % 2, 5] ∧ k0_off70 i = ![((i 0).val + 1) % 2, 6] ∧ k0_off73 i = ![((i 0).val + 1) % 2, 7] := by
  decide

/-- And for its own. -/
theorem drain_own : ∀ i : grid0.Coords, k0_cond2 i = 1#1 →
    k0_off76 i = ![(i 0).val % 2, 0] ∧ k0_off79 i = ![(i 0).val % 2, 1] ∧ k0_off82 i = ![(i 0).val % 2, 2] ∧ k0_off85 i = ![(i 0).val % 2, 3]
    ∧ k0_off88 i = ![(i 0).val % 2, 4] ∧ k0_off91 i = ![(i 0).val % 2, 5] ∧ k0_off94 i = ![(i 0).val % 2, 6] ∧ k0_off97 i = ![(i 0).val % 2, 7] := by
  decide

end Cert.KernelIdeal.Out
end
-- ==== Proof.Decode.lean ====
module

public import proofs.«01_k».proof.Proof.Steps

@[expose] public section

noncomputable section

namespace Cert.KernelIdeal.Out

open Cert.KernelIdeal Cert.KernelIdeal.Gen
open Idealize.ShloMosaic Idealize.ShloMosaic.TcCoe Idealize.ShloMosaic.Tactic

variable {F : FTy → Type} [FloatOps F]

/-! ## What one step computes from its block -/

theorem anchor_inb (a : Fin 3) : ∀ d, ![0, a.val, 0, 0] d + S1x1x85x5776.size d ≤ S1x3x85x5776.size d := by revert a; decide

/-- Anchor `a`'s 85 rows of a block. -/
def plane (a : Fin 3) (X : S1x3x85x5776.Idx → F .f32) : Vec F S1x1x85x5776 .f32 := fun j =>
  X ((Rect.unit (s := S1x3x85x5776) ![0, a.val, 0, 0] S1x1x85x5776.size (anchor_inb a)).emb j)

/-- The values each of a step's three stores puts down. -/
def laid (X : S1x3x85x5776.Idx → F .f32) : Fin 3 → FVec F S1x5776x85 .f32
  | 0 => k0_pay5 (k0_pay1 (plane 0 X)) (iota .tc S1x5776 32 [1] iota_S1x5776_d1_w32) (k0_pay2 (F := F)) 76#32 k0_pay3 k0_pay4
  | 1 => k0_pay9 (k0_pay6 (plane 1 X)) (k0_pay7 (F := F)) (k0_pay8 (F := F))
  | 2 => k0_pay15 (k0_pay14 (k0_pay10 (plane 2 X)) (iota .tc S1x5776 32 [1] iota_S1x5776_d1_w32) k0_pay11 k0_pay12 k0_pay13)

/-- The row of its anchor's 5776 that row `r` is, as an index of what one store puts down. -/
def inLaid (r : Fin 17328) (col : Fin 85) : S1x5776x85.Idx :=
  Fin.cons (0 : Fin 1) (Fin.cons (⟨r.val % 5776, Nat.mod_lt _ (by decide)⟩ : Fin 5776) (Fin.cons col finZeroElim))

/-- Row `r`, column `col` of what a step computes from block `X`: row `r % 5776` of anchor `r / 5776`'s values. -/
def decoded (X : S1x3x85x5776.Idx → F .f32) (r : Fin 17328) (col : Fin 85) : F .f32 :=
  laid X ⟨r.val / 5776, by have := r.isLt; omega⟩ (inLaid r col)

/-- What a slot holds after the three stores. -/
def filled (X : S1x3x85x5776.Idx → F .f32) : S2x17328x85.Idx → F .f32 := fun x => decoded X (x 1) (x 2)

/-- One store, read at an index of its slot: the stored values on the anchor's rows, what was there elsewhere. -/
theorem store_at (g : Fin 2) (a : Fin 3) {off : Fin 3 → ℕ} (ho : off = ![g.val, 5776 * a.val, 0])
    (h : ∀ d, off d + S1x5776x85.size d ≤ S2x17328x85.size d) (f : S2x17328x85.Idx → F .f32) (P : FVec F S1x5776x85 .f32)
    (x : S2x17328x85.Idx) (hx : x ∈ slab g) :
    ((scrM.access (Rect.unit (s := S2x17328x85) off S1x5776x85.size h)).write (Elt F) f P Finset.univ) x
      = if (x 1).val / 5776 = a.val then P (inLaid (x 1) (x 2)) else f x := by
  subst ho
  have hg : (x 0).val = g.val := by simpa [slab] using hx
  have h1 : (x 1).val < 17328 := (x 1).isLt
  split
  · rename_i ha
    have e : x = (scrM.access (Rect.unit (s := S2x17328x85) ![g.val, 5776 * a.val, 0] S1x5776x85.size h)).emb (inLaid (x 1) (x 2)) := by
      funext d
      apply Fin.ext
      match d with
      | 0 => show (x 0).val = g.val + 1 * 0; omega
      | 1 => show (x 1).val = 5776 * a.val + 1 * ((x 1).val % 5776); omega
      | 2 => show (x 2).val = 0 + 1 * (x 2).val; omega
    conv_lhs => rw [e]
    exact View.write_emb_of_mem _ _ (Finset.mem_univ _)
  · rename_i ha
    refine View.write_of_not_mem _ _ _ ?_
    have hs : (scrM.access (Rect.unit (s := S2x17328x85) ![g.val, 5776 * a.val, 0] S1x5776x85.size h)).setOn Finset.univ
        = (Rect.unit (s := S2x17328x85) ![g.val, 5776 * a.val, 0] S1x5776x85.size h).set := View.set_slice_whole _ _
    rw [hs, Rect.mem_set_unit]
    intro hx'
    have := hx' 1
    simp at this
    omega

/-- The three stores together, read at an index of their slot. -/
theorem stores_at (g : Fin 2) (X : S1x3x85x5776.Idx → F .f32) {o0 o1 o2 : Fin 3 → ℕ} (h0 : o0 = ![g.val, 0, 0])
    (h1 : o1 = ![g.val, 5776, 0]) (h2 : o2 = ![g.val, 11552, 0])
    (i0 : ∀ d, o0 d + S1x5776x85.size d ≤ S2x17328x85.size d) (i1 : ∀ d, o1 d + S1x5776x85.size d ≤ S2x17328x85.size d)
    (i2 : ∀ d, o2 d + S1x5776x85.size d ≤ S2x17328x85.size d) (f : S2x17328x85.Idx → F .f32)
    (x : S2x17328x85.Idx) (hx : x ∈ slab g) :
    (scrM.access (Rect.unit (s := S2x17328x85) o2 S1x5776x85.size i2)).write (Elt F)
      ((scrM.access (Rect.unit (s := S2x17328x85) o1 S1x5776x85.size i1)).write (Elt F)
        ((scrM.access (Rect.unit (s := S2x17328x85) o0 S1x5776x85.size i0)).write (Elt F) f (laid X 0) Finset.univ)
        (laid X 1) Finset.univ) (laid X 2) Finset.univ x
      = filled X x := by
  have hr : (x 1).val < 17328 := (x 1).isLt
  rw [store_at g 2 h2 i2 _ _ x hx, store_at g 1 h1 i1 _ _ x hx, store_at g 0 h0 i0 _ _ x hx]
  unfold filled decoded
  split
  · rename_i h; rw [show (⟨(x 1).val / 5776, by omega⟩ : Fin 3) = 2 from Fin.ext h]
  split
  · rename_i h; rw [show (⟨(x 1).val / 5776, by omega⟩ : Fin 3) = 1 from Fin.ext h]
  split
  · rename_i h; rw [show (⟨(x 1).val / 5776, by omega⟩ : Fin 3) = 0 from Fin.ext h]
  · rename_i h2 h1 h0
    simp at h0 h1 h2
    omega

end Cert.KernelIdeal.Out
end
-- ==== Proof.Wait.lean ====
module

public import proofs.«01_k».proof.Proof.Offsets
public import proofs.«01_k».proof.Proof.Decode

@[expose] public section

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (𝒱 : Variants) (bd : Option 𝒱.V)

/-- The block a step reads, in its staging buffer. -/
abbrev blk (b : Memref sig .tc .vmem S1x3x85x5776 .f32) (X : S1x3x85x5776.Idx → F .f32) : sProp 𝕄 :=
  owns (c.tc : Thread nD τ) b fullShare X

/-- The load of anchor `a`'s rows of the block. -/
theorem wp_plane {α : Type} (Q : α → sProp 𝕄) (b : Memref sig .tc .vmem S1x3x85x5776 .f32) (X : S1x3x85x5776.Idx → F .f32) (a : Fin 3)
    {off : Fin 4 → ℕ} (ho : off = ![0, a.val, 0, 0]) {inb : ∀ d, off d + S1x1x85x5776.size d ≤ S1x3x85x5776.size d} {hl}
    {kk : ((Rect.unit (s := S1x3x85x5776) off S1x1x85x5776.size inb).shape.Idx → Elt F .f32) → Prog (TpuEff nD τ sig (Elt F) Λ₀ .tc) α} :
    blk c b X ⊢ iprop((blk c b X -∗ wp frame (wpE (defs₀ (F := F)) 𝒱 (c.tc : Thread nD τ) bd) Set.univ (kk (plane a X)) Q)
      -∗ wp frame (wpE (defs₀ (F := F)) 𝒱 (c.tc : Thread nD τ) bd) Set.univ
          (.op (.load b (Rect.unit (s := S1x3x85x5776) off S1x1x85x5776.size inb).toLoadRect hl) kk) Q) := by
  subst ho
  unfold blk owns
  iintro ⟨%f, %hf, H⟩ Hk
  iapply (wp_load 𝒱 (c.tc : Thread nD τ) bd Set.univ (m := b) (f := f) (S := b.view.set) (View.setOn_subset_set _ _)) $$ H
  iintro H
  have e : b.view.readAt (Elt F) (Rect.unit (s := S1x3x85x5776) ![0, a.val, 0, 0] S1x1x85x5776.size inb).toLoadRect f = plane a X := by
    subst hf; rfl
  rw [e]
  iapply Hk
  iexists f
  isplitr
  · ipureintro; exact hf
  iexact H

/-! ## The step's opening: the slot's earlier copies waited for, anchor 0's rows loaded -/

/-- The opening's results: the step, the slot word, anchor 0's rows, and the grid's words. -/
abbrev opened (i : grid0.Coords) (v9 : BitVec 32) (X : S1x3x85x5776.Idx → F .f32) :
    Σ' (arg0 : BitVec 32) (v9 : BitVec 32) (v14 : FVec F S85x5776 .f32) (v15 : IVec S1x5776 32) (v32 : FVec F S1x5776 .f32)
      (c76_i32_13 : BitVec 32) (v34 : IVec S1x5776 32), IVec S1x5776 32 :=
  ⟨BitVec.ofNat 32 (i 0).val, v9, k0_pay1 (plane 0 X), iota .tc S1x5776 32 [1] iota_S1x5776_d1_w32, k0_pay2 (F := F), 76#32, k0_pay3, k0_pay4⟩

/-- The opening of the kernel's body as the body runs it. -/
abbrev opening (i : grid0.Coords) (b : Memref sig .tc .vmem S1x3x85x5776 .f32) (hb : b.IsWhole) :=
  k0_part5 (F := F) i b hb (Memref.whole main_v1) (Memref.isWhole_whole _) (Memref.whole cc0_scratch0) (Memref.isWhole_whole _) cc0_scratch1

set_option maxHeartbeats 1000000 in
/-- In the first two steps the opening waits for nothing. -/
theorem opening_skips (i : grid0.Coords) (h : ¬ k0_cond1 i = 1#1) (b : Memref sig .tc .vmem S1x3x85x5776 .f32) (hb : b.IsWhole)
    (X : S1x3x85x5776.Idx → F .f32) (Q) :
    blk c b X ⊢ iprop((∀ v9, blk c b X -∗ Q (opened i v9 X))
      -∗ wp frame (wpE (defs₀ (F := F)) 𝒱 (c.tc : Thread nD τ) bd) Set.univ (opening i b hb) Q) := by
  unfold opening
  rw [k0_part5_eq_skeleton]
  unfold k0_part5_skel
  simp only [dif_neg h, Prog.bind_lift, Prog.pure_eq_ret, Prog.bind_ret, Prog.bind_op]
  iintro H Hk
  iapply (wp_plane c 𝒱 bd Q b X 0 rfl) $$ H
  iintro H
  iapply (le_wp_ret frame _ _ _ Q)
  iapply Hk $$ H

set_option maxHeartbeats 2000000 in
/-- From step 2 on it waits for the eight copies out of its slot. -/
theorem opening_waits (i : grid0.Coords) (h : k0_cond1 i = 1#1) (b : Memref sig .tc .vmem S1x3x85x5776 .f32) (hb : b.IsWhole)
    (X : S1x3x85x5776.Idx → F .f32) (u : Fin 16) (G : S16x17328x85.Idx → F .f32) (f : S2x17328x85.Idx → F .f32) (Q) :
    iprop(all8 (fun k => away c (slotOf i) u k G f) ∗ blk c b X ∗ still c)
      ⊢ iprop((∀ v9, iprop(all8 (fun k => back c (slotOf i) u k G f) ∗ blk c b X ∗ still c) -∗ Q (opened i v9 X))
      -∗ wp frame (wpE (defs₀ (F := F)) 𝒱 (c.tc : Thread nD τ) bd) Set.univ (opening i b hb) Q) := by
  obtain ⟨e0, e1, e2, e3, e4, e5, e6, e7⟩ := wait_cells i h
  unfold opening
  rw [k0_part5_eq_skeleton]
  unfold k0_part5_skel
  simp only [dif_pos h, k0_part1_eq_skeleton, k0_part1_skel, Prog.bind_lift, Prog.pure_eq_ret, Prog.bind_ret, Prog.bind_op]
  iintro ⟨⟨A0, A1, A2, A3, A4, A5, A6, A7⟩, H, HO⟩ Hk
  iapply (wp_back c 𝒱 bd Q (slotOf i) u 0 rfl e0 G f) $$ [A0 HO]
  · isplitl [A0] <;> iassumption
  iintro ⟨B0, HO⟩
  iapply (wp_back c 𝒱 bd Q (slotOf i) u 1 rfl e1 G f) $$ [A1 HO]
  · isplitl [A1] <;> iassumption
  iintro ⟨B1, HO⟩
  iapply (wp_back c 𝒱 bd Q (slotOf i) u 2 rfl e2 G f) $$ [A2 HO]
  · isplitl [A2] <;> iassumption
  iintro ⟨B2, HO⟩
  iapply (wp_back c 𝒱 bd Q (slotOf i) u 3 rfl e3 G f) $$ [A3 HO]
  · isplitl [A3] <;> iassumption
  iintro ⟨B3, HO⟩
  iapply (wp_back c 𝒱 bd Q (slotOf i) u 4 rfl e4 G f) $$ [A4 HO]
  · isplitl [A4] <;> iassumption
  iintro ⟨B4, HO⟩
  iapply (wp_back c 𝒱 bd Q (slotOf i) u 5 rfl e5 G f) $$ [A5 HO]
  · isplitl [A5] <;> iassumption
  iintro ⟨B5, HO⟩
  iapply (wp_back c 𝒱 bd Q (slotOf i) u 6 rfl e6 G f) $$ [A6 HO]
  · isplitl [A6] <;> iassumption
  iintro ⟨B6, HO⟩
  iapply (wp_back c 𝒱 bd Q (slotOf i) u 7 rfl e7 G f) $$ [A7 HO]
  · isplitl [A7] <;> iassumption
  iintro ⟨B7, HO⟩
  iapply (wp_plane c 𝒱 bd Q b X 0 rfl) $$ H
  iintro H
  iapply (le_wp_ret frame _ _ _ Q)
  iapply Hk $$ [B0 B1 B2 B3 B4 B5 B6 B7 H HO]
  isplitl [B0 B1 B2 B3 B4 B5 B6 B7]
  · unfold all8
    dsimp only
    iframe
  iframe

end Cert.KernelIdeal.Out
end
-- ==== Proof.Body.lean ====
module

public import proofs.«01_k».proof.Proof.Wait

@[expose] public section

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (𝒱 : Variants) (bd : Option 𝒱.V)

/-! ## What a slot and a step's rows can be -/

/-- A slot with no copy under way: its eight cells at zero, its rows at anything. -/
def free (g : Fin 2) : sProp 𝕄 := iprop(all8 (fun k => semVal ((c.tc : Thread nD τ), SemLoc.dma (cell g k)) 0) ∗ ∃ f, scr c (slab g) f)
/-- A slot whose eight copies of step `u` are under way, to land `G`. -/
def infl (G : S16x17328x85.Idx → F .f32) (g : Fin 2) (u : Fin 16) : sProp 𝕄 := iprop(∃ f, all8 fun k => away c g u k G f)
/-- A step's rows of the result, not written yet. -/
def ahead (u : Fin 16) : sProp 𝕄 := iprop(∃ f, out c (sheet u) f)
/-- A step's rows of the result, at `G`. -/
def behind (G : S16x17328x85.Idx → F .f32) (u : Fin 16) : sProp 𝕄 := out c (sheet u) G

/-- Eight copies waited for: the step's rows are at `G` and the slot is free. -/
theorem backs (g : Fin 2) (u : Fin 16) (G : S16x17328x85.Idx → F .f32) (f : S2x17328x85.Idx → F .f32) :
    all8 (fun k => back c g u k G f) ⊢ iprop(behind c G u ∗ free c g) := by
  unfold behind free
  iintro ⟨⟨⟨O0, T0⟩, V0⟩, ⟨⟨O1, T1⟩, V1⟩, ⟨⟨O2, T2⟩, V2⟩, ⟨⟨O3, T3⟩, V3⟩, ⟨⟨O4, T4⟩, V4⟩, ⟨⟨O5, T5⟩, V5⟩, ⟨⟨O6, T6⟩, V6⟩, ⟨⟨O7, T7⟩, V7⟩⟩
  isplitl [O0 O1 O2 O3 O4 O5 O6 O7]
  · rw [out_sheet]
    unfold all8
    dsimp only
    iframe
  isplitl [V0 V1 V2 V3 V4 V5 V6 V7]
  · unfold all8
    dsimp only
    iframe
  iexists f
  rw [scr_slab]
  unfold all8
  dsimp only
  iframe

/-! ## The stores -/

theorem rows_sub (g : Fin 2) (a : Fin 3) {off : Fin 3 → ℕ} (ho : off = ![g.val, 5776 * a.val, 0])
    (h : ∀ d, off d + S1x5776x85.size d ≤ S2x17328x85.size d) : (Rect.unit (s := S2x17328x85) off S1x5776x85.size h).set ⊆ slab g := by
  subst ho
  intro x hx
  rw [Rect.mem_set_unit] at hx
  have := hx 0
  simp at this
  simp only [slab, Finset.mem_filter, Finset.mem_univ, true_and]
  omega

/-- The load before a store: the slot as it was. -/
theorem wp_peek {α : Type} (Q : α → sProp 𝕄) (g : Fin 2) (a : Fin 3) {off : Fin 3 → ℕ} (ho : off = ![g.val, 5776 * a.val, 0])
    {h : ∀ d, off d + S1x5776x85.size d ≤ S2x17328x85.size d} {hl} (f : S2x17328x85.Idx → F .f32)
    {p : Prog (TpuEff nD τ sig (Elt F) Λ₀ .tc) α} :
    scr c (slab g) f ⊢ iprop((scr c (slab g) f -∗ wp frame (wpE (defs₀ (F := F)) 𝒱 (c.tc : Thread nD τ) bd) Set.univ p Q)
      -∗ wp frame (wpE (defs₀ (F := F)) 𝒱 (c.tc : Thread nD τ) bd) Set.univ
          (.op (.load scrM (Rect.unit (s := S2x17328x85) off S1x5776x85.size h).toLoadRect hl) fun _ => p) Q) := by
  have hs : scrM.view.setOn (Rect.unit (s := S2x17328x85) off S1x5776x85.size h).toLoadRect.set ⊆ slab g := by
    rw [show scrM.view.setOn (Rect.unit (s := S2x17328x85) off S1x5776x85.size h).toLoadRect.set
      = (Rect.unit (s := S2x17328x85) off S1x5776x85.size h).set from Finset.map_refl]
    exact rows_sub g a ho h
  iintro H Hk
  iapply (wp_load 𝒱 (c.tc : Thread nD τ) bd Set.univ (m := scrM) (f := f) (S := slab g) hs) $$ H
  iintro H
  iapply Hk $$ H

/-- A store of one anchor's rows. -/
theorem wp_lay {α : Type} (Q : α → sProp 𝕄) (g : Fin 2) (a : Fin 3) {off : Fin 3 → ℕ} (ho : off = ![g.val, 5776 * a.val, 0])
    {h : ∀ d, off d + S1x5776x85.size d ≤ S2x17328x85.size d} {hx hm} (P : FVec F S1x5776x85 .f32) (f : S2x17328x85.Idx → F .f32)
    {kk : PUnit → Prog (TpuEff nD τ sig (Elt F) Λ₀ .tc) α} :
    scr c (slab g) f ⊢ iprop((scr c (slab g) ((scrM.access (Rect.unit (s := S2x17328x85) off S1x5776x85.size h)).write (Elt F) f P Finset.univ)
          -∗ wp frame (wpE (defs₀ (F := F)) 𝒱 (c.tc : Thread nD τ) bd) Set.univ (kk ⟨⟩) Q)
      -∗ wp frame (wpE (defs₀ (F := F)) 𝒱 (c.tc : Thread nD τ) bd) Set.univ
          (.op (.store scrM (Rect.unit (s := S2x17328x85) off S1x5776x85.size h) P Finset.univ hx hm) kk) Q) := by
  have hs : (scrM.access (Rect.unit (s := S2x17328x85) off S1x5776x85.size h)).setOn Finset.univ ⊆ slab g := by
    rw [show (scrM.access (Rect.unit (s := S2x17328x85) off S1x5776x85.size h)).setOn Finset.univ
      = (Rect.unit (s := S2x17328x85) off S1x5776x85.size h).set from View.set_slice_whole _ _]
    exact rows_sub g a ho h
  iintro H Hk
  iapply (wp_store 𝒱 (c.tc : Thread nD τ) bd Set.univ (m := scrM) (r := Rect.unit (s := S2x17328x85) off S1x5776x85.size h)
    (f := f) (w := P) (S := slab g) hs) $$ H
  iintro H
  iapply Hk $$ H

/-- A slot after the three stores, as its eight copies' rows at the block's values. -/
theorem stored (g : Fin 2) (X : S1x3x85x5776.Idx → F .f32) {o0 o1 o2 : Fin 3 → ℕ} (h0 : o0 = ![g.val, 0, 0])
    (h1 : o1 = ![g.val, 5776, 0]) (h2 : o2 = ![g.val, 11552, 0])
    (i0 : ∀ d, o0 d + S1x5776x85.size d ≤ S2x17328x85.size d) (i1 : ∀ d, o1 d + S1x5776x85.size d ≤ S2x17328x85.size d)
    (i2 : ∀ d, o2 d + S1x5776x85.size d ≤ S2x17328x85.size d) (f : S2x17328x85.Idx → F .f32) :
    scr c (slab g) ((scrM.access (Rect.unit (s := S2x17328x85) o2 S1x5776x85.size i2)).write (Elt F)
      ((scrM.access (Rect.unit (s := S2x17328x85) o1 S1x5776x85.size i1)).write (Elt F)
        ((scrM.access (Rect.unit (s := S2x17328x85) o0 S1x5776x85.size i0)).write (Elt F) f (laid X 0) Finset.univ)
        (laid X 1) Finset.univ) (laid X 2) Finset.univ)
      ⊢ all8 fun k => scr c (tile g k) (filled X) := by
  rw [← scr_slab]
  unfold scr
  exact Entails.of_eq (pointsTo_congr fun x hx => stores_at g X h0 h1 h2 i0 i1 i2 f x hx)

end Cert.KernelIdeal.Out
end
-- ==== Proof.Turn.lean ====
module

public import proofs.«01_k».proof.Proof.Body

@[expose] public section

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (𝒱 : Variants) (bd : Option 𝒱.V)

/-- The kernel's body on block buffer `b`, as the pipeline calls it. -/
abbrev turn (i : grid0.Coords) (b : Memref sig .tc .vmem S1x3x85x5776 .f32) (hb : b.IsWhole) :=
  cc0__decode_kernel (F := F) i b hb (Memref.whole main_v1) (Memref.isWhole_whole _) (Memref.whole cc0_scratch0) (Memref.isWhole_whole _) cc0_scratch1

set_option maxHeartbeats 8000000 in
/-- One step. Given that the opening leaves the slot free (and `B` beside it), the step writes its block's values into the slot and
    starts its eight copies; the last step then waits for the other slot's copies and its own. -/
theorem wp_turn (i : grid0.Coords) (b : Memref sig .tc .vmem S1x3x85x5776 .f32) (hb : b.IsWhole) (X : S1x3x85x5776.Idx → F .f32)
    (G : S16x17328x85.Idx → F .f32) (hG : ∀ x ∈ sheet (stepOf i), G x = decoded X (x 1) (x 2)) (A B D E : sProp 𝕄) (u' : Fin 16)
    (hA : ∀ Q, iprop(A ∗ blk c b X ∗ still c)
      ⊢ iprop((∀ v9, iprop((free c (slotOf i) ∗ B) ∗ blk c b X ∗ still c) -∗ Q (opened i v9 X))
        -∗ wp frame (wpE (defs₀ (F := F)) 𝒱 (c.tc : Thread nD τ) bd) Set.univ (opening i b hb) Q))
    (hN : ¬ k0_cond2 i = 1#1 → iprop(B ∗ infl c G (slotOf i) (stepOf i)) ⊢ E)
    (hB : k0_cond2 i = 1#1 → B ⊢ iprop(D ∗ infl c G (other i) u'))
    (hE : k0_cond2 i = 1#1 → iprop(D ∗ (behind c G u' ∗ free c (other i)) ∗ (behind c G (stepOf i) ∗ free c (slotOf i))) ⊢ E) (Q : PUnit → sProp 𝕄) :
    iprop(A ∗ ahead c (stepOf i) ∗ blk c b X ∗ still c)
      ⊢ iprop((iprop(E ∗ blk c b X ∗ still c) -∗ Q ⟨⟩)
        -∗ wp frame (wpE (defs₀ (F := F)) 𝒱 (c.tc : Thread nD τ) bd) Set.univ (turn i b hb) Q) := by
  obtain ⟨r0, r1, r2⟩ := store_rows i
  obtain ⟨s0, s1, s2, s3, s4, s5, s6, s7⟩ := start_cells i
  obtain ⟨d0, d1, d2, d3, d4, d5, d6, d7⟩ := start_to i
  obtain ⟨f0, f1, f2, f3, f4, f5, f6, f7⟩ := start_from i
  have hG' : ∀ k, ∀ x ∈ piece (stepOf i) k, G x = filled X (inSlot (slotOf i) x) := fun k x hx =>
    hG x (Finset.mem_biUnion.mpr ⟨k, Finset.mem_univ _, hx⟩)
  unfold turn
  rw [cc0__decode_kernel_eq_skeleton]
  unfold cc0__decode_kernel_skel
  rw [wp_bind]
  iintro ⟨HA, Ha, Hb, HO⟩ Hk
  iapply (hA _) $$ [HA Hb HO]
  · isplitl [HA]; · iexact HA
    isplitl [Hb]; · iexact Hb
    iexact HO
  iintro %v9 ⟨⟨Hf, HB⟩, Hb, HO⟩
  simp only [k0_part6_eq_skeleton, k0_part6_skel, k0_part7_eq_skeleton, k0_part7_skel, k0_part8_eq_skeleton, k0_part8_skel,
    k0_part9_eq_skeleton, k0_part9_skel, k0_part10_eq_skeleton, k0_part10_skel, Prog.bind_lift, Prog.pure_eq_ret, Prog.bind_ret, Prog.bind_op]
  unfold free ahead
  icases Hf with ⟨⟨V0, V1, V2, V3, V4, V5, V6, V7⟩, %fs, Hs⟩
  icases Ha with ⟨%fd, Ha⟩
  iapply (wp_peek c 𝒱 bd Q (slotOf i) 0 r0 fs) $$ Hs
  iintro Hs
  iapply (wp_lay c 𝒱 bd Q (slotOf i) 0 r0 (laid X 0) fs) $$ Hs
  iintro Hs
  iapply (wp_plane c 𝒱 bd Q b X 1 rfl) $$ Hb
  iintro Hb
  iapply (wp_peek c 𝒱 bd Q (slotOf i) 1 r1 _) $$ Hs
  iintro Hs
  iapply (wp_lay c 𝒱 bd Q (slotOf i) 1 r1 (laid X 1) _) $$ Hs
  iintro Hs
  iapply (wp_plane c 𝒱 bd Q b X 2 rfl) $$ Hb
  iintro Hb
  iapply (wp_peek c 𝒱 bd Q (slotOf i) 2 r2 _) $$ Hs
  iintro Hs
  iapply (wp_lay c 𝒱 bd Q (slotOf i) 2 r2 (laid X 2) _) $$ Hs
  iintro Hs
  icases (stored c (slotOf i) X r0 r1 r2 (k0_off25_inb i) (k0_off26_inb i) (k0_off27_inb i) fs) $$ Hs with ⟨T0, T1, T2, T3, T4, T5, T6, T7⟩
  icases (Entails.of_eq (out_sheet c (stepOf i) fd)) $$ Ha with ⟨O0, O1, O2, O3, O4, O5, O6, O7⟩
  iapply (wp_start c 𝒱 bd Q (slotOf i) (stepOf i) 0 rfl s0 d0 f0 G (filled X) fd (hG' 0)) $$ [T0 O0 V0]
  · iframe
  iintro W0
  iapply (wp_start c 𝒱 bd Q (slotOf i) (stepOf i) 1 rfl s1 d1 f1 G (filled X) fd (hG' 1)) $$ [T1 O1 V1]
  · iframe
  iintro W1
  iapply (wp_start c 𝒱 bd Q (slotOf i) (stepOf i) 2 rfl s2 d2 f2 G (filled X) fd (hG' 2)) $$ [T2 O2 V2]
  · iframe
  iintro W2
  iapply (wp_start c 𝒱 bd Q (slotOf i) (stepOf i) 3 rfl s3 d3 f3 G (filled X) fd (hG' 3)) $$ [T3 O3 V3]
  · iframe
  iintro W3
  iapply (wp_start c 𝒱 bd Q (slotOf i) (stepOf i) 4 rfl s4 d4 f4 G (filled X) fd (hG' 4)) $$ [T4 O4 V4]
  · iframe
  iintro W4
  iapply (wp_start c 𝒱 bd Q (slotOf i) (stepOf i) 5 rfl s5 d5 f5 G (filled X) fd (hG' 5)) $$ [T5 O5 V5]
  · iframe
  iintro W5
  iapply (wp_start c 𝒱 bd Q (slotOf i) (stepOf i) 6 rfl s6 d6 f6 G (filled X) fd (hG' 6)) $$ [T6 O6 V6]
  · iframe
  iintro W6
  iapply (wp_start c 𝒱 bd Q (slotOf i) (stepOf i) 7 rfl s7 d7 f7 G (filled X) fd (hG' 7)) $$ [T7 O7 V7]
  · iframe
  iintro W7
  by_cases h : k0_cond2 i = 1#1
  · obtain ⟨p0, p1, p2, p3, p4, p5, p6, p7⟩ := drain_other i h
    obtain ⟨q0, q1, q2, q3, q4, q5, q6, q7⟩ := drain_own i h
    simp only [dif_pos h, k0_part2_eq_skeleton, k0_part2_skel, k0_part3_eq_skeleton, k0_part3_skel, k0_part4_eq_skeleton, k0_part4_skel,
      Prog.bind_lift, Prog.pure_eq_ret, Prog.bind_ret, Prog.bind_op]
    icases (hB h) $$ HB with ⟨HD, Hi⟩
    unfold infl
    icases Hi with ⟨%f', A0, A1, A2, A3, A4, A5, A6, A7⟩
    iapply (wp_back c 𝒱 bd Q (other i) u' 0 rfl p0 G f') $$ [A0 HO]
    · isplitl [A0] <;> iassumption
    iintro ⟨A0, HO⟩
    iapply (wp_back c 𝒱 bd Q (other i) u' 1 rfl p1 G f') $$ [A1 HO]
    · isplitl [A1] <;> iassumption
    iintro ⟨A1, HO⟩
    iapply (wp_back c 𝒱 bd Q (other i) u' 2 rfl p2 G f') $$ [A2 HO]
    · isplitl [A2] <;> iassumption
    iintro ⟨A2, HO⟩
    iapply (wp_back c 𝒱 bd Q (other i) u' 3 rfl p3 G f') $$ [A3 HO]
    · isplitl [A3] <;> iassumption
    iintro ⟨A3, HO⟩
    iapply (wp_back c 𝒱 bd Q (other i) u' 4 rfl p4 G f') $$ [A4 HO]
    · isplitl [A4] <;> iassumption
    iintro ⟨A4, HO⟩
    iapply (wp_back c 𝒱 bd Q (other i) u' 5 rfl p5 G f') $$ [A5 HO]
    · isplitl [A5] <;> iassumption
    iintro ⟨A5, HO⟩
    iapply (wp_back c 𝒱 bd Q (other i) u' 6 rfl p6 G f') $$ [A6 HO]
    · isplitl [A6] <;> iassumption
    iintro ⟨A6, HO⟩
    iapply (wp_back c 𝒱 bd Q (other i) u' 7 rfl p7 G f') $$ [A7 HO]
    · isplitl [A7] <;> iassumption
    iintro ⟨A7, HO⟩
    iapply (wp_back c 𝒱 bd Q (slotOf i) (stepOf i) 0 rfl q0 G (filled X)) $$ [W0 HO]
    · isplitl [W0] <;> iassumption
    iintro ⟨W0, HO⟩
    iapply (wp_back c 𝒱 bd Q (slotOf i) (stepOf i) 1 rfl q1 G (filled X)) $$ [W1 HO]
    · isplitl [W1] <;> iassumption
    iintro ⟨W1, HO⟩
    iapply (wp_back c 𝒱 bd Q (slotOf i) (stepOf i) 2 rfl q2 G (filled X)) $$ [W2 HO]
    · isplitl [W2] <;> iassumption
    iintro ⟨W2, HO⟩
    iapply (wp_back c 𝒱 bd Q (slotOf i) (stepOf i) 3 rfl q3 G (filled X)) $$ [W3 HO]
    · isplitl [W3] <;> iassumption
    iintro ⟨W3, HO⟩
    iapply (wp_back c 𝒱 bd Q (slotOf i) (stepOf i) 4 rfl q4 G (filled X)) $$ [W4 HO]
    · isplitl [W4] <;> iassumption
    iintro ⟨W4, HO⟩
    iapply (wp_back c 𝒱 bd Q (slotOf i) (stepOf i) 5 rfl q5 G (filled X)) $$ [W5 HO]
    · isplitl [W5] <;> iassumption
    iintro ⟨W5, HO⟩
    iapply (wp_back c 𝒱 bd Q (slotOf i) (stepOf i) 6 rfl q6 G (filled X)) $$ [W6 HO]
    · isplitl [W6] <;> iassumption
    iintro ⟨W6, HO⟩
    iapply (wp_back c 𝒱 bd Q (slotOf i) (stepOf i) 7 rfl q7 G (filled X)) $$ [W7 HO]
    · isplitl [W7] <;> iassumption
    iintro ⟨W7, HO⟩
    iapply (le_wp_ret frame _ _ _ Q)
    iapply Hk
    isplitl [HD A0 A1 A2 A3 A4 A5 A6 A7 W0 W1 W2 W3 W4 W5 W6 W7]
    · iapply (hE h)
      isplitl [HD]; · iexact HD
      isplitl [A0 A1 A2 A3 A4 A5 A6 A7]
      · iapply (backs c (other i) u' G f')
        unfold all8
        dsimp only
        iframe
      · iapply (backs c (slotOf i) (stepOf i) G (filled X))
        unfold all8
        dsimp only
        iframe
    iframe
  · simp only [dif_neg h]
    iapply (le_wp_ret frame _ _ _ Q)
    iapply Hk
    isplitl [HB W0 W1 W2 W3 W4 W5 W6 W7]
    · iapply (hN h)
      isplitl [HB]; · iexact HB
      unfold infl
      iexists (filled X)
      unfold all8
      dsimp only
      iframe
    iframe

end Cert.KernelIdeal.Out
end
-- ==== Proof.Ring.lean ====
module

public import proofs.«01_k».proof.Proof.Turn

@[expose] public section

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

variable (c : Dev nD) (𝒱 : Variants) (bd : Option 𝒱.V)

/-! ## The two slots between steps -/

/-- The slots and the result before step `p`: the rows of the steps to come, the rows of the steps whose copies were waited for, and
    the two slots, each free or with its latest step's copies under way; after the last step both are free. -/
def ring (G : S16x17328x85.Idx → F .f32) (p : ℕ) : sProp 𝕄 := AtBΦ (NB := 16) 2 (free c) (infl c G) (ahead c) (behind c G) p

/-- The opening when the slot is already free. -/
theorem open_free (i : grid0.Coords) (h : ¬ k0_cond1 i = 1#1) (b : Memref sig .tc .vmem S1x3x85x5776 .f32) (hb : b.IsWhole)
    (X : S1x3x85x5776.Idx → F .f32) (C : sProp 𝕄) (Q) :
    iprop((free c (slotOf i) ∗ C) ∗ blk c b X ∗ still c)
      ⊢ iprop((∀ v9, iprop((free c (slotOf i) ∗ C) ∗ blk c b X ∗ still c) -∗ Q (opened i v9 X))
        -∗ wp frame (wpE (defs₀ (F := F)) 𝒱 (c.tc : Thread nD τ) bd) Set.univ (opening i b hb) Q) := by
  iintro ⟨HF, Hb, HO⟩ Hk
  iapply (opening_skips c 𝒱 bd i h b hb X Q) $$ Hb
  iintro %v9 Hb
  iapply Hk
  isplitl [HF]; · iexact HF
  isplitl [Hb]; · iexact Hb
  iexact HO

/-- The opening when the slot's copies of step `u` are under way: their rows are written and the slot is free. -/
theorem open_infl (i : grid0.Coords) (h : k0_cond1 i = 1#1) (b : Memref sig .tc .vmem S1x3x85x5776 .f32) (hb : b.IsWhole)
    (X : S1x3x85x5776.Idx → F .f32) (G : S16x17328x85.Idx → F .f32) (u : Fin 16) (C : sProp 𝕄) (Q) :
    iprop((infl c G (slotOf i) u ∗ C) ∗ blk c b X ∗ still c)
      ⊢ iprop((∀ v9, iprop((free c (slotOf i) ∗ (behind c G u ∗ C)) ∗ blk c b X ∗ still c) -∗ Q (opened i v9 X))
        -∗ wp frame (wpE (defs₀ (F := F)) 𝒱 (c.tc : Thread nD τ) bd) Set.univ (opening i b hb) Q) := by
  unfold infl
  iintro ⟨⟨⟨%f, HI⟩, HC⟩, Hb, HO⟩ Hk
  iapply (opening_waits c 𝒱 bd i h b hb X u G f Q) $$ [HI Hb HO]
  · isplitl [HI]; · iexact HI
    isplitl [Hb]; · iexact Hb
    iexact HO
  iintro %v9 ⟨HB, Hb, HO⟩
  icases (backs c (slotOf i) u G f) $$ HB with ⟨HB, HF⟩
  iapply Hk
  isplitl [HF HB HC]
  · isplitl [HF]; · iexact HF
    isplitl [HB]; · iexact HB
    iexact HC
  isplitl [Hb]; · iexact Hb
  iexact HO

theorem slotOf_eq (i : grid0.Coords) : slotOf i = sl 2 (i 0).val := Fin.ext rfl
theorem other_eq (i : grid0.Coords) : other i = sl 2 ((i 0).val + 1) := Fin.ext rfl
theorem stepOf_eq (i : grid0.Coords) : stepOf i = bk 16 (i 0).val := Fin.ext (Nat.mod_eq_of_lt (i 0).isLt).symm

set_option maxHeartbeats 1000000 in
/-- One step takes the slots from before it to after it. -/
theorem ring_step (i : grid0.Coords) (b : Memref sig .tc .vmem S1x3x85x5776 .f32) (hb : b.IsWhole) (X : S1x3x85x5776.Idx → F .f32)
    (G : S16x17328x85.Idx → F .f32) (hG : ∀ x ∈ sheet (stepOf i), G x = decoded X (x 1) (x 2)) (Q : PUnit → sProp 𝕄) :
    iprop(ring c G (i 0).val ∗ blk c b X ∗ still c)
      ⊢ iprop((iprop(ring c G ((i 0).val + 1) ∗ blk c b X ∗ still c) -∗ Q ⟨⟩)
        -∗ wp frame (wpE (defs₀ (F := F)) 𝒱 (c.tc : Thread nD τ) bd) Set.univ (turn i b hb) Q) := by
  have hlt : (i 0).val < 16 := (i 0).isLt
  have es := slotOf_eq i
  have eo := other_eq i
  have eu := stepOf_eq i
  have hw := waits_iff i
  have hd := drains_iff i
  generalize hp : (i 0).val = p at *
  unfold ring
  rcases Nat.lt_or_ge p 2 with h2 | h2
  · have nw : ¬ k0_cond1 i = 1#1 := fun h => by have := hw.mp h; omega
    have nd : ¬ k0_cond2 i = 1#1 := fun h => by have := hd.mp h; omega
    rcases Nat.eq_zero_or_pos p with h0 | h0
    · rw [AtBΦ_lt _ _ _ _ _ p (by omega), AtB2_zero' 2 _ _ _ _ p h0, AtBΦ_lt _ _ _ _ _ (p + 1) (by omega), AtB22_next_zero' _ _ _ _ p h0,
        ← es, ← eu]
      iintro ⟨⟨⟨Ha, HA⟩, Hf, Hf'⟩, Hb, HO⟩ Hk
      iapply (wp_turn c 𝒱 bd i b hb X G hG _ _ iprop(emp) _ 0 (open_free c 𝒱 bd i nw b hb X iprop(bigSep (aheadSet (p + 1)) (ahead c) ∗ free c (sl 2 (p + 1)))) (fun _ => sep_assoc.1)
        (fun h => absurd h nd) (fun h => absurd h nd) Q) $$ [Ha HA Hf Hf' Hb HO]
      · iframe
      iexact Hk
    · have h1 : p = 1 := by omega
      rw [AtBΦ_lt _ _ _ _ _ p (by omega), AtB22_one' _ _ _ _ p h1 (by omega), AtBΦ_lt _ _ _ _ _ (p + 1) (by omega), AtB22_next_one' _ _ _ _ p h1,
        ← es, ← eu]
      iintro ⟨⟨⟨Ha, HA⟩, Hf, Hc⟩, Hb, HO⟩ Hk
      iapply (wp_turn c 𝒱 bd i b hb X G hG _ _ iprop(emp) _ 0 (open_free c 𝒱 bd i nw b hb X iprop(bigSep (aheadSet (p + 1)) (ahead c) ∗ infl c G (sl 2 (p + 1)) (bk 16 (p - 1)))) (fun _ => sep_assoc.1)
        (fun h => absurd h nd) (fun h => absurd h nd) Q) $$ [Ha HA Hf Hc Hb HO]
      · iframe
      iexact Hk
  · have yw : k0_cond1 i = 1#1 := hw.mpr h2
    rcases Nat.lt_or_ge p 15 with h15 | h15
    · have nd : ¬ k0_cond2 i = 1#1 := fun h => by have := hd.mp h; omega
      rw [AtBΦ_lt _ _ _ _ _ p (by omega), AtB22_here _ _ _ _ p h2 (by omega), AtBΦ_lt _ _ _ _ _ (p + 1) (by omega), AtB22_next _ _ _ _ p h2 (by omega),
        ← es, ← eu]
      iintro ⟨⟨⟨Ha, HA⟩, HB, Hw, Hc⟩, Hb, HO⟩ Hk
      iapply (wp_turn c 𝒱 bd i b hb X G hG _ _ iprop(emp)
        iprop(bigSep (aheadSet (p + 1)) (ahead c) ∗ (behind c G (bk 16 (p - 2)) ∗ bigSep (behindSet 2 p) (behind c G))
          ∗ infl c G (sl 2 (p + 1)) (bk 16 (p - 1)) ∗ infl c G (slotOf i) (stepOf i)) 0 (open_infl c 𝒱 bd i yw b hb X G (bk 16 (p - 2)) iprop(bigSep (aheadSet (p + 1)) (ahead c)
          ∗ bigSep (behindSet 2 p) (behind c G) ∗ infl c G (sl 2 (p + 1)) (bk 16 (p - 1))))
        (fun _ => by iintro ⟨⟨H1, H2, H3, H4⟩, H5⟩; iframe)
        (fun h => absurd h nd) (fun h => absurd h nd) Q) $$ [Ha HA HB Hw Hc Hb HO]
      · iframe
      iexact Hk
    · have yd : k0_cond2 i = 1#1 := hd.mpr (by omega)
      rw [AtBΦ_lt _ _ _ _ _ p (by omega), AtB22_here_last _ _ _ _ p h2 (by omega), AtBΦ_end _ _ _ _ _ (p + 1) (by omega), AtB22_drained _ _ p h2 (by omega),
        ← es, ← eu, ← eo]
      iintro ⟨⟨Ha, HB, Hw, Hc⟩, Hb, HO⟩ Hk
      iapply (wp_turn c 𝒱 bd i b hb X G hG _ _ iprop(behind c G (bk 16 (p - 2)) ∗ bigSep (behindSet 2 p) (behind c G))
        iprop((behind c G (stepOf i) ∗ behind c G (bk 16 (p - 2)) ∗ behind c G (bk 16 (p - 1)) ∗ bigSep (behindSet 2 p) (behind c G))
          ∗ free c (slotOf i) ∗ free c (other i)) (bk 16 (p - 1))
        (open_infl c 𝒱 bd i yw b hb X G (bk 16 (p - 2)) iprop(bigSep (behindSet 2 p) (behind c G) ∗ infl c G (other i) (bk 16 (p - 1))))
        (fun h => absurd yd h) (fun _ => sep_assoc.2)
        (fun _ => by iintro ⟨⟨H1, H2⟩, ⟨H3, H4⟩, H5, H6⟩; iframe) Q) $$ [Ha HB Hw Hc Hb HO]
      · iframe
      iexact Hk

end Cert.KernelIdeal.Out
end
-- ==== Proof.Launched.lean ====
module

public import proofs.«01_k».proof.Proof.Ring
public import proofs.«01_k».proof.Proof.Gen.KernelIdeal.Frame
public import Idealize.ShloMosaic.Lib.Pipeline.FrameSuffixV

@[expose] public section

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## What the result holds -/

/-- The block of the input that point `t` reads. -/
abbrev taken (t : Fin cfg0.N) : S1x3x85x5776.Idx → F .f32 := iblk m c 0 t

/-- The block of the input that step `u` reads. -/
def block (u : Fin 16) : S1x3x85x5776.Idx → F .f32 := taken m c ⟨u.val, by rw [show cfg0.N = 16 from N_0]; exact u.isLt⟩

/-- The result of the launch: image `u`, row `r`, column `q` is the decoding of step `u`'s block there. -/
def result : S16x17328x85.Idx → F .f32 := fun x => decoded (block m c (x 0)) (x 1) (x 2)

/-- Of the buffers no window stages, `main_v1` alone ends changed: it ends at the result. -/
def final (b : Ref sig .tc) : Buf (Elt F) ((c.tc : Thread nD τ).loc b) :=
  if h : b = main_v1 then h ▸ (result m c : Buf (Elt F) ((c.tc : Thread nD τ).loc main_v1)) else V m c b

theorem final_result : final m c main_v1 = result m c := by unfold final; rw [dif_pos rfl]

/-! ## The launch's set-up -/

/-- The kernel's own semaphore cells, by slot and copy. -/
abbrev cells : Fin 2 × Fin 8 → SemLoc sig := fun p => SemLoc.dma (cell p.1 p.2)

theorem cells_own : Pipeline.OwnSemFacts spec0 cells := by decide

/-- The one buffer the body's copies write. -/
def written : Finset (Ref sig .tc) := {main_v1}

theorem written_sub : written ⊆ Pipeline.restRefs sig spec0 \ ∅ := by decide

theorem cells_eq : (Pipeline.ownSems0 (Ix := Unit) (Name := ℕ) (U := Pipeline.UD sig nD τ) (Lvl := ℕ) (Val := Elt F) (τ := τ) cells c : sProp 𝕄)
    = iprop(all8 (fun k => semVal ((c.tc : Thread nD τ), SemLoc.dma (cell 0 k)) 0)
        ∗ all8 (fun k => semVal ((c.tc : Thread nD τ), SemLoc.dma (cell 1 k)) 0)) := by
  unfold Pipeline.ownSems0
  rw [bigSep_univ_prod, bigSep_univ_eq_bigSepL [(0 : Fin 2), 1] (by decide) (by decide), ← all8_eq, ← all8_eq]
  rfl

/-- What the launch hands the body before the first step, and gets back after the last: the scratch buffer, the cells and the result
    buffer. -/
theorem handed (G : (c : Dev nD) → (b : Ref sig .tc) → Buf (Elt F) ((c.tc : Thread nD τ).loc b)) (V' : (c : Dev nD) → (b : Ref sig .tc) → Buf (Elt F) ((c.tc : Thread nD τ).loc b)) :
    (Pipeline.ΦDRV cells spec0 ∅ written V' G c : sProp 𝕄)
      = iprop((∃ f, scr c Finset.univ f)
        ∗ (all8 (fun k => semVal ((c.tc : Thread nD τ), SemLoc.dma (cell 0 k)) 0)
          ∗ all8 (fun k => semVal ((c.tc : Thread nD τ), SemLoc.dma (cell 1 k)) 0))
        ∗ emp ∗ out c Finset.univ (G c main_v1)) := by
  unfold Pipeline.ΦDRV
  rw [scopedRest0_eq, cells_eq, bigSep_empty, bigSep_eq_bigSepL_of_eq [main_v1] (by decide) (by decide)]
  rfl

/-- The proof data: the input block stays where it is, and between steps the slots are as `ring` says. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ p := ring c (result m c) p.val
  q _ := fullShare
  owed _ := 0

theorem A_eq (w : Fin cfg0.W) : (dats m 0 c).A w = V m c (Pipeline.arrRef spec0 w) := by dsimp only [dats]

theorem after_eq (t : Fin cfg0.N) : (dats m 0 c).after 0 t = iblk m c 0 t := by dsimp only [dats]

/-- Before each step the window's buffer holds the step's block. -/
theorem before_eq (t : Fin cfg0.N) (d) : (dats m 0 c).before 0 t d = iblk m c 0 t :=
  ((dats m 0 c).before_in_eq_fetched 0 rfl (fun _ => rfl) (fun _ _ _ => rfl)
      (fun t => by rw [after_eq]; unfold Dat.blockOf iblk; rw [A_eq]; try rfl) t d).trans
    (by unfold Dat.fetched Dat.blockOf iblk; rw [A_eq]; try rfl)

/-- What step `t` starts from. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- What step `t` leaves. -/
def bodyPost (t : Fin cfg0.N) : sProp 𝕄 :=
  iprop((dats m 0 c).Φ t.succ ∗ (dats m 0 c).owesAt () t.succ
    ∗ owns (c : Thread nD τ) (st0_0 t) fullShare ((dats m 0 c).after 0 t))

/-- The grid's one coordinate at point `t` is `t`. -/
theorem coord (t : Fin cfg0.N) : (grid0.coords t 0).val = t.val := by
  revert t; exact (by decide : ∀ t : Fin grid0.N, (grid0.coords t 0).val = t.val)

theorem result_block (t : Fin cfg0.N) (x) (hx : x ∈ sheet (stepOf (grid0.coords t))) :
    result m c x = decoded (taken m c t) (x 1) (x 2) := by
  have h : (x 0).val = t.val := ((mem_sheet _ x).mp hx).trans (coord t)
  have hb : block m c (x 0) = taken m c t := congrArg (taken m c) (Fin.ext h)
  unfold result; rw [hb]

/-- Each step of the body meets its obligation. -/
theorem sound_body (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = ring c (result m c) (grid0.coords t 0).val from by rw [coord]; rfl,
    show (dats m 0 c).Φ t.succ = ring c (result m c) ((grid0.coords t 0).val + 1) from by rw [coord]; rfl, after_eq]
  unfold Dat.owesAt Pipeline.owesWithin
  rw [show (dats m 0 c).owed t.castSucc = 0 from rfl, show (dats m 0 c).owed t.succ = 0 from rfl]
  iintro ⟨HR, ⟨%W, -, HW⟩, ⟨%d, H⟩⟩
  rw [before_eq]
  iapply (ring_step c Variants.none none (grid0.coords t) (win0_0.stage (cfg0.slots t 0)) (hstage0_0 ((cfg0.slots t 0).cast nbuf0_0))
    (taken m c t) (result m c) (result_block m c t) _) $$ [HR HW H]
  · isplitl [HR]; · iexact HR
    isplitl [H]; · iexact H
    unfold still; iexists W; iexact HW
  unfold still
  iintro ⟨HR, H, ⟨%W', HW'⟩⟩
  isplitl [HR]; · iexact HR
  isplitl [HW']
  · iexists W'; isplitr; · ipureintro; exact fun _ _ => Or.inl trivial
    iexact HW'
  iexact H

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## Before the first step and after the last -/

theorem two (P : Fin 2 → sProp 𝕄) : bigSep Finset.univ P = iprop(P 0 ∗ P 1) :=
  bigSep_univ_eq_bigSepL [(0 : Fin 2), 1] (by decide) (by decide) P

theorem unwritten_one (f : S16x17328x85.Idx → F .f32) (u : Fin 16) : out c (sheet u) f ⊢ ahead c u := by
  unfold ahead
  iintro H
  iexists f
  iexact H

/-- The result's rows, at whatever they hold, are rows still to be written. -/
theorem unwritten (f : S16x17328x85.Idx → F .f32) :
    bigSep Finset.univ (fun u => out c (sheet u) f) ⊢ bigSep Finset.univ (ahead c) :=
  bigSep_mono fun u _ => unwritten_one c f u

/-- What the launch hands over is the slots before the first step. -/
theorem starts : (Pipeline.ΦDRV cells spec0 ∅ written (V m) (V m) c : sProp 𝕄) ⊢ (dats m 0 c).Φ 0 := by
  rw [handed, show (dats m 0 c).Φ 0 = ring c (result m c) 0 from rfl]
  unfold ring
  rw [AtBΦ_lt _ _ _ _ _ 0 (by omega), AtB_zero]
  unfold AtB₀
  rw [two, out_univ]
  unfold free
  iintro ⟨⟨%f, HS⟩, ⟨HC, HC'⟩, -, HO⟩
  icases (Entails.of_eq (scr_univ c f)) $$ HS with ⟨H0, H1⟩
  isplitl [HO]
  · iapply (unwritten c (V m c main_v1)) $$ HO
  isplitl [HC H0]
  · isplitl [HC]; · iexact HC
    iexists f; iexact H0
  isplitl [HC']; · iexact HC'
  iexists f; iexact H1

/-- The two slots, each at some contents, are the scratch buffer at some contents. -/
theorem joined (f f' : S2x17328x85.Idx → F .f32) :
    iprop(scr c (slab 0) f ∗ scr c (slab 1) f') ⊢ iprop(∃ f, scr c Finset.univ f) := by
  have h0 : scr c (slab 0) f = scr c (slab 0) (fun x => if x ∈ slab 0 then f x else f' x) :=
    pointsTo_congr fun x hx => by rw [if_pos hx]
  have h1 : scr c (slab 1) f' = scr c (slab 1) (fun x => if x ∈ slab 0 then f x else f' x) :=
    pointsTo_congr fun x hx => by
      rw [if_neg]
      intro h
      simp [slab] at h hx
      omega
  rw [h0, h1, ← scr_univ]
  iintro H
  iexists _
  iexact H

/-- The slots after the last step are what the launch takes back, the result buffer at the result. -/
theorem ends : (dats m 0 c).Φ (Fin.last cfg0.N) ⊢ (Pipeline.ΦDRV cells spec0 ∅ written (V m) (final m) c : sProp 𝕄) := by
  rw [handed, final_result, show (dats m 0 c).Φ (Fin.last cfg0.N) = ring c (result m c) cfg0.N from rfl, show cfg0.N = 16 from N_0]
  unfold ring
  rw [AtBΦ_end _ _ _ _ _ 16 rfl]
  unfold AtBEnd
  rw [two, out_univ]
  unfold free
  iintro ⟨HO, ⟨HC, %f, H0⟩, HC', %f', H1⟩
  isplitl [H0 H1]
  · iapply (joined c f f') $$ [H0 H1]
    isplitl [H0]; · iexact H0
    iexact H1
  isplitl [HC HC']
  · isplitl [HC]; · iexact HC
    iexact HC'
  isplitr [HO]; · iempintro
  unfold behind
  iexact HO

/-! ## The run -/

/-- The line after the region leaves the result buffer at the result. -/
theorem after_result (A : (w : Fin cfg0.W) → _) :
    StableHlo.after (List.flatten [hostOps1]) (Pipeline.withArrays spec0 c (Pipeline.withR (V0 m c) written c (final m c)) A) (Proc.devRef .tc main_v1)
      = result m c := by
  rw [StableHlo.after_of_forall_not_mem (b := Proc.devRef .tc main_v1) _ _ (List.forall_iff_forall_mem.mp (by
      simp only [hostOps1, List.flatten_cons, List.flatten_nil, List.append_nil, List.cons_append, List.nil_append, List.Forall,
        StableHlo.nullary_writes, Finset.mem_singleton]
      exact StableHlo.devRef_ne_of_ne (by decide))),
    Pipeline.withArrays_of_ne _ c _ _ main_v1 (by exact (by decide : ∀ w, Pipeline.arrRef spec0 w ≠ main_v1))]
  exact (Pipeline.withR_of_mem _ written c (final m c) main_v1 (by decide)).trans (final_result m c)

/-- It leaves the argument as launched. -/
theorem after_arg (A : (w : Fin cfg0.W) → _) :
    StableHlo.after (List.flatten [hostOps1]) (Pipeline.withArrays spec0 c (Pipeline.withR (V0 m c) written c (final m c)) A) (Proc.devRef .tc main_arg0)
      = m ((c.tc : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.nullary_writes, Finset.mem_singleton]
      exact StableHlo.devRef_ne_of_ne (by decide))),
    Pipeline.withArrays_of_ne _ c _ _ main_arg0 (by exact (by decide : ∀ w, Pipeline.arrRef spec0 w ≠ main_arg0))]
  exact (Pipeline.withR_of_not_mem _ written c (final m c) main_arg0 (by decide)).trans (V_main_arg0 m c)

/-- It writes 0 into the constant result. -/
theorem after_const (W : Valuation τ sig (Elt F)) :
    StableHlo.after (List.flatten [hostOps1]) W (Proc.devRef .tc main_c) = constantI S_ 32 0#32 := by
  simp only [hostOps1, List.flatten_cons, List.flatten_nil, List.append_nil, StableHlo.after_cons, StableHlo.after_nil]
  exact StableHlo.nullary_result ..

set_option backward.isDefEq.respectTransparency.types false in
/-- The kernel's run: the result buffer ends at `result`, the constant result at 0, the argument as launched, every semaphore at 0. -/
theorem run : θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_c) = constantI S_ 32 0#32
      ∧ r.2.mem ((c.tc : Thread nD τ).loc main_arg0) = m ((c.tc : Thread nD τ).loc main_arg0))
      ∧ r.2.sem = fun _ => 0) :=
  Pipeline.θ_run_frame_dmaR_aroundV cfgs (dats m) (0 : Fin 1) launch0 cells defs₀ Variants.none cells_own ∅ written
    (by decide) written_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := final m)
    (hmain := Pipeline.hmain_around cfgs 0 defs₀ Variants.none m main [hostOps0] [hostOps1] (by simp only [List.Forall]; exact hostOps0_sub)
      (by simp only [List.Forall]; exact hostOps0_fresh) main_chain)
    (hA := A_eq m) (hin := starts m) (hout := ends m) (Q' := _)
    (hQ' := fun r h => ⟨fun c => by
      refine ⟨?_, ?_, ?_⟩
      · refine ((h.1 c).2 main_v1 (Pipeline.mem_restRefs_of main_v1 (by decide) (by decide))).trans ?_
        exact after_result m c _
      · refine ((h.1 c).2 main_c (Pipeline.mem_restRefs_of main_c (by decide) (by decide))).trans ?_
        exact after_const _
      · refine ((h.1 c).2 main_arg0 (Pipeline.mem_restRefs_of main_arg0 (by decide) (by decide))).trans ?_
        exact after_arg m c _, h.2⟩)

end Cert.KernelIdeal.Out
end
-- ==== Proof.Carry.lean ====
module

public import proofs.«01_k».proof.Defs
public import proofs.«01_k».proof.Proof.Gen.Kernel
public import proofs.«01_k».proof.Proof.Gen.KernelIdeal

@[expose] public section

set_option maxRecDepth 100000

noncomputable section

namespace Cert.Carry

open Idealize.ShloMosaic Idealize.SL.Sem

variable {F : FTy → Type} [FloatOps F] [hK : Cert.Kernel.Facts] [hI : Cert.KernelIdeal.Facts]

/-! ## The kernel and its idealization are one program

No operation was rewritten, so the two printed texts agree; what is proved of the one at every float instance holds of the other. -/

/-- The two bodies agree. -/
theorem body_same (i a b c d e f g) :
    Kernel.cc0__decode_kernel (F := F) i a b c d e f g = KernelIdeal.cc0__decode_kernel (F := F) i a b c d e f g := rfl

/-- So do the tables the two programs call their bodies from. -/
theorem bodies_same : Kernel.defs₀ (F := F) = KernelIdeal.defs₀ (F := F) := by
  funext pr l a
  cases pr with
  | tc => match l with | 0 => obtain ⟨t, s⟩ := a; exact body_same ..
  | scScalar => rfl
  | scVector => rfl

/-- And the tables with the pipelines in them. -/
theorem defs_same : Kernel.defs (F := F) = KernelIdeal.defs (F := F) := congrArg (Pipeline.defs Kernel.pcfgs) bodies_same

/-- The two main functions agree. -/
theorem main_same : Kernel.main (F := F) = KernelIdeal.main (F := F) := funext fun c => rfl

/-- A run of the idealization at the bit instance is a run of the kernel. -/
theorem frame_of (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)) : quiescent_Kernel := fun m g _ => by
  rw [defs_same, main_same]; exact h m g

end Cert.Carry
end
-- ==== Proof.Values.lean ====
module

public import proofs.«01_k».proof.Proof.Decode
public import Idealize.ShloMosaic.Lib.Pointwise

@[expose] public section

set_option maxRecDepth 16384

noncomputable section

namespace Cert.KernelIdeal.Out

open Cert.KernelIdeal Cert.KernelIdeal.Gen
open Idealize.ShloMosaic Idealize.ShloMosaic.TcCoe

variable {F : FTy → Type} [FloatOps F]

/-! ## One anchor's values, as one expression for the three anchors -/

/-- The width of anchor `a`, in pixels, as the kernel writes it. -/
def widthWord : Fin 3 → BitVec 32
  | 0 => 0x42E80000#32
  | 1 => 0x431C0000#32
  | 2 => 0x43BA8000#32

/-- The height of anchor `a`, in pixels, as the kernel writes it. -/
def heightWord : Fin 3 → BitVec 32
  | 0 => 0x42B40000#32
  | 1 => 0x43460000#32
  | 2 => 0x43A30000#32

/-- The 85 channels of one anchor decoded: the two centres, the two extents, then confidence and classes. -/
def channels (v : FVec F S85x5776 .f32) (ww hw : BitVec 32) : FVec F S85x5776 .f32 :=
  concatenate S85x5776 0
    [⟨S1x5776, mulf (addf (extractStridedSlice S1x5776 ![0, 0] (logistic (extractStridedSlice S2x5776 ![0, 0] v slices_S85x5776_o0_0_S2x5776)) slices_S2x5776_o0_0_S1x5776) k0_pay7) (broadcast S1x5776 (Scalar.ofBits .f32 0x41000000#32))⟩,
     ⟨S1x5776, mulf (addf (extractStridedSlice S1x5776 ![1, 0] (logistic (extractStridedSlice S2x5776 ![0, 0] v slices_S85x5776_o0_0_S2x5776)) slices_S2x5776_o1_0_S1x5776) k0_pay8) (broadcast S1x5776 (Scalar.ofBits .f32 0x41000000#32))⟩,
     ⟨S1x5776, mulf (extractStridedSlice S1x5776 ![0, 0] (exp (extractStridedSlice S2x5776 ![2, 0] v slices_S85x5776_o2_0_S2x5776)) slices_S2x5776_o0_0_S1x5776) (broadcast S1x5776 (Scalar.ofBits .f32 ww))⟩,
     ⟨S1x5776, mulf (extractStridedSlice S1x5776 ![1, 0] (exp (extractStridedSlice S2x5776 ![2, 0] v slices_S85x5776_o2_0_S2x5776)) slices_S2x5776_o1_0_S1x5776) (broadcast S1x5776 (Scalar.ofBits .f32 hw))⟩,
     ⟨S81x5776, logistic (extractStridedSlice S81x5776 ![4, 0] v slices_S85x5776_o4_0_S81x5776)⟩]
    concatenates_S1x5776_S1x5776_S1x5776_S1x5776_S81x5776_S85x5776_d0

/-- What each of the three stores puts down is that expression, transposed, at the anchor's own extents. -/
theorem laid_eq (X : S1x3x85x5776.Idx → F .f32) (a : Fin 3) :
    laid X a = k0_pay15 (channels (k0_pay1 (plane a X)) (widthWord a) (heightWord a)) := by
  match a with
  | 0 => rfl
  | 1 => rfl
  | 2 => rfl

/-! ## The two grid offsets -/

/-- The column offset of position `p` is `p % 76`, as a float. -/
theorem column (j : S1x5776.Idx) : (k0_pay7 (F := F)) j = FloatOps.sitofp .f32 (BitVec.ofNat 32 ((j 1).val % 76)) := by
  idx_vars j
  unfold k0_pay7
  pointwise
  refine congrArg _ ?_
  revert j1
  decide +kernel

/-- The row offset of position `p` is `p / 76`, as a float. -/
theorem row (j : S1x5776.Idx) : (k0_pay8 (F := F)) j = FloatOps.sitofp .f32 (BitVec.ofNat 32 ((j 1).val / 76)) := by
  idx_vars j
  unfold k0_pay8
  pointwise
  refine congrArg _ ?_
  revert j1
  decide +kernel

/-! ## One value -/

/-- Channel `k` of anchor `a` at position `p`, from the number `z` the network puts there: a centre is the logistic of `z` plus the
    position's column or row, times the stride 8; an extent is the exponential of `z` times the anchor's; the rest is the logistic. -/
def decodeOne (a : Fin 3) (k : Fin 85) (p : Fin 5776) (z : EReal) : EReal :=
  if k.val = 0 then (Ideal.logistic z + FloatOps.sitofp (F := Ideal) .f32 (BitVec.ofNat 32 (p.val % 76))) * Ideal.ofBits .f32 0x41000000#32
  else if k.val = 1 then (Ideal.logistic z + FloatOps.sitofp (F := Ideal) .f32 (BitVec.ofNat 32 (p.val / 76))) * Ideal.ofBits .f32 0x41000000#32
  else if k.val = 2 then Ideal.exp z * Ideal.ofBits .f32 (widthWord a)
  else if k.val = 3 then Ideal.exp z * Ideal.ofBits .f32 (heightWord a)
  else Ideal.logistic z

/-- Five pieces of 1, 1, 1, 1 and 81 rows one on top of the other, read at row `k`. -/
theorem stacked (p₀ p₁ p₂ p₃ : FVec Ideal S1x5776 .f32) (p₄ : FVec Ideal S81x5776 .f32) (k : Fin 85) (p : Fin 5776) :
    concatenate S85x5776 0 [⟨S1x5776, p₀⟩, ⟨S1x5776, p₁⟩, ⟨S1x5776, p₂⟩, ⟨S1x5776, p₃⟩, ⟨S81x5776, p₄⟩]
        concatenates_S1x5776_S1x5776_S1x5776_S1x5776_S81x5776_S85x5776_d0 (ix2 k p)
      = if k.val = 0 then p₀ (ix2 0 p) else if k.val = 1 then p₁ (ix2 0 p) else if k.val = 2 then p₂ (ix2 0 p)
        else if k.val = 3 then p₃ (ix2 0 p) else p₄ (ix2 ⟨k.val - 4, by have := k.isLt; omega⟩ p) := by
  pointwise
  have one (v : FVec Ideal S1x5776 .f32) (i : Fin 1) : v (ix2 i p) = v (ix2 0 p) := by rw [Subsingleton.elim i 0]
  by_cases h₀ : k.val < 1
  · exact (dif_pos h₀).trans ((one _ _).trans (if_pos (by omega)).symm)
  refine (dif_neg h₀).trans (Eq.trans ?_ (if_neg (by omega)).symm)
  by_cases h₁ : k.val - 1 < 1
  · exact (dif_pos h₁).trans ((one _ _).trans (if_pos (by omega)).symm)
  refine (dif_neg h₁).trans (Eq.trans ?_ (if_neg (by omega)).symm)
  by_cases h₂ : k.val - 1 - 1 < 1
  · exact (dif_pos h₂).trans ((one _ _).trans (if_pos (by omega)).symm)
  refine (dif_neg h₂).trans (Eq.trans ?_ (if_neg (by omega)).symm)
  by_cases h₃ : k.val - 1 - 1 - 1 < 1
  · exact (dif_pos h₃).trans ((one _ _).trans (if_pos (by omega)).symm)
  exact (dif_neg h₃).trans (if_neg (by omega)).symm

/-- Each channel at each position is decoded by itself. -/
theorem channels_at (v : FVec Ideal S85x5776 .f32) (a : Fin 3) (k : Fin 85) (p : Fin 5776) :
    channels v (widthWord a) (heightWord a) (ix2 k p) = decodeOne a k p (v (ix2 k p)) := by
  unfold decodeOne
  generalize widthWord a = ww
  generalize heightWord a = hw
  refine (stacked _ _ _ _ _ k p).trans ?_
  have hk := k.isLt
  split_ifs with h₀ h₁ h₂ h₃
  · obtain rfl : k = 0 := Fin.ext h₀
    pointwise
    rw [column]
    rfl
  · obtain rfl : k = 1 := Fin.ext h₁
    pointwise
    rw [row]
    rfl
  · obtain rfl : k = 2 := Fin.ext h₂
    pointwise
  · obtain rfl : k = 3 := Fin.ext h₃
    pointwise
  · pointwise
    have e (h) : (⟨4 + (k.val - 4), h⟩ : Fin 85) = k := Fin.ext (show 4 + (k.val - 4) = k.val by omega)
    rw [e]

/-- Row `r`, column `k` of what a step computes from block `X`. -/
theorem decoded_at (X : S1x3x85x5776.Idx → Ideal .f32) (r : Fin 17328) (k : Fin 85) :
    decoded X r k = decodeOne ⟨r.val / 5776, by have := r.isLt; omega⟩ k ⟨r.val % 5776, Nat.mod_lt _ (by decide)⟩
      (X (ix4 0 ⟨r.val / 5776, by have := r.isLt; omega⟩ k ⟨r.val % 5776, Nat.mod_lt _ (by decide)⟩)) := by
  have hi : inLaid r k = ix3 0 ⟨r.val % 5776, Nat.mod_lt _ (by decide)⟩ k := by funext d; match d with | 0 => rfl | 1 => rfl | 2 => rfl
  unfold decoded
  rw [laid_eq, hi]
  generalize (⟨r.val / 5776, _⟩ : Fin 3) = a
  generalize (⟨r.val % 5776, _⟩ : Fin 5776) = p
  have h (C : FVec Ideal S85x5776 .f32) : k0_pay15 C (ix3 0 p k) = C (ix2 k p) := by
    unfold k0_pay15; pointwise
  rw [h, channels_at]
  refine congrArg _ ?_
  unfold k0_pay1 plane
  pointwise
  refine congrArg X ?_
  funext d
  apply Fin.ext
  match d with
  | 0 => rfl
  | 1 => show a.val + 1 * 0 = a.val; omega
  | 2 => show 0 + 1 * k.val = k.val; omega
  | 3 => show 0 + 1 * p.val = p.val; omega

end Cert.KernelIdeal.Out
end
-- ==== Proof.Block.lean ====
module

public import proofs.«01_k».proof.Proof.Launched
public import proofs.«01_k».proof.Proof.Values
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Out

open Cert.KernelIdeal Cert.KernelIdeal.Gen
open Idealize.ShloMosaic Idealize.ShloMosaic.TcCoe

variable {F : FTy → Type} [FloatOps F]

/-- Point `t` reads the block of image `t`, whole in the other axes. -/
theorem index_at : ∀ t : Fin cfg0.N, win0_0.index t = ![t.val, 0, 0, 0] := by decide +kernel

/-- The array the launch reads is the input, its 255 channels split into three anchors of 85 and its rows laid end to end. -/
theorem entry (m : (ℓ : Loc nD τ sig) → Buf (Elt F) ℓ) (c : Dev nD) :
    V m c main_v0 = shapeCast S16x3x85x5776 (m ((c.tc : Thread nD τ).loc main_arg0)) shapeCasts_S16x255x76x76_S16x3x85x5776 := by
  unfold V V0
  simp only [hostOps0, List.flatten_cons, List.flatten_nil, List.append_nil, StableHlo.after_cons, StableHlo.after_nil]
  exact StableHlo.reshape_result' ..

/-- Splitting the channels and laying the rows end to end, read at an index. -/
theorem split_at {α : Type} (x : S16x255x76x76.Idx → α) (u : Fin 16) (a : Fin 3) (k : Fin 85) (p : Fin 5776) :
    shapeCast S16x3x85x5776 x shapeCasts_S16x255x76x76_S16x3x85x5776 (ix4 u a k p)
      = x (ix4 u ⟨a.val * 85 + k.val, by have := a.isLt; have := k.isLt; omega⟩ ⟨p.val / 76, by have := p.isLt; omega⟩
        ⟨p.val % 76, Nat.mod_lt _ (by decide)⟩) := by
  pointwise

/-- Step `u`'s block is image `u` of that. -/
theorem block_at (m : (ℓ : Loc nD τ sig) → Buf (Elt F) ℓ) (c : Dev nD) (u : Fin 16) (a : Fin 3) (k : Fin 85) (p : Fin 5776) :
    block m c u (ix4 0 a k p) = (V m c main_v0 : S16x3x85x5776.Idx → F .f32) (ix4 u a k p) := by
  unfold block taken
  generalize hv : V m c main_v0 = v
  blk_ext [iblk, index_at, hv]

/-- Image `u`, row `r`, column `k` of the kernel's result. -/
theorem result_at (m : (ℓ : Loc nD τ sig) → Buf (Elt Ideal) ℓ) (c : Dev nD) (u : Fin 16) (r : Fin 17328) (k : Fin 85) :
    result m c (ix3 u r k) = decodeOne ⟨r.val / 5776, by have := r.isLt; omega⟩ k ⟨r.val % 5776, Nat.mod_lt _ (by decide)⟩
      (m ((c.tc : Thread nD τ).loc main_arg0) (ix4 u ⟨r.val / 5776 * 85 + k.val, by have := r.isLt; have := k.isLt; omega⟩
        ⟨r.val % 5776 / 76, by have := r.isLt; omega⟩ ⟨r.val % 5776 % 76, Nat.mod_lt _ (by decide)⟩)) := by
  refine (decoded_at (block m c u) r k).trans ?_
  rw [block_at, entry, split_at]

end Cert.KernelIdeal.Out
end
-- ==== Proof.Reference.lean ====
module

public import proofs.«01_k».proof.Proof.Gen.ReferenceIdeal.Run
public import proofs.«01_k».proof.Proof.Values
public import Idealize.ShloMosaic.Lib.Pointwise

@[expose] public section

set_option maxRecDepth 16384

noncomputable section

namespace Cert.ReferenceIdeal.Out

open Cert.ReferenceIdeal Cert.ReferenceIdeal.Gen
open Idealize.ShloMosaic Idealize.ShloMosaic.TcCoe

variable {α : Type}

/-! ## How the reference's pieces are put together -/

/-- The image row of row `r`. -/
theorem image_row (r : Fin 17328) (h) : (⟨r.val / 76 % 76, h⟩ : Fin 76) = ⟨r.val % 5776 / 76, by have := r.isLt; omega⟩ :=
  Fin.ext (show r.val / 76 % 76 = r.val % 5776 / 76 by omega)

/-- The image column of row `r`. -/
theorem image_column (r : Fin 17328) (h) : (⟨r.val % 76, h⟩ : Fin 76) = ⟨r.val % 5776 % 76, by have := r.isLt; omega⟩ :=
  Fin.ext (show r.val % 76 = r.val % 5776 % 76 by omega)

/-- The boxes, three anchors of 76 rows of 76, laid end to end: row `r` is anchor `r / 5776`, image row `r % 5776 / 76`, column `r % 5776 % 76`. -/
theorem rows (x : S16x3x76x76x4.Idx → α) (u : Fin 16) (r : Fin 17328) (d : Fin 4) :
    shapeCast S16x17328x4 x shapeCasts_S16x3x76x76x4_S16x17328x4 (ix3 u r d)
      = x (ix5 u ⟨r.val / 5776, by have := r.isLt; omega⟩ ⟨r.val % 5776 / 76, by have := r.isLt; omega⟩
          ⟨r.val % 5776 % 76, by have := r.isLt; omega⟩ d) := by
  pointwise
  rw [image_row, image_column]

/-- Four numbers of a box, one confidence and eighty classes, side by side. -/
theorem joined (p : S16x17328x4.Idx → α) (q : S16x17328x1.Idx → α) (s : S16x17328x80.Idx → α) (u : Fin 16) (r : Fin 17328) (k : Fin 85) :
    concatenate S16x17328x85 2 [⟨S16x17328x4, p⟩, ⟨S16x17328x1, q⟩, ⟨S16x17328x80, s⟩]
        concatenates_S16x17328x4_S16x17328x1_S16x17328x80_S16x17328x85_d2 (ix3 u r k)
      = if h : k.val < 4 then p (ix3 u r ⟨k.val, h⟩) else if k.val = 4 then q (ix3 u r 0)
        else s (ix3 u r ⟨k.val - 5, by have := k.isLt; omega⟩) := by
  pointwise
  by_cases h₀ : k.val < 4
  · rw [dif_pos h₀, dif_pos h₀]
  refine (dif_neg h₀).trans (Eq.trans ?_ (dif_neg h₀).symm)
  by_cases h₁ : k.val - 4 < 1
  · exact (dif_pos h₁).trans ((congrArg (fun i => q (ix3 u r i)) (Subsingleton.elim _ 0)).trans (if_pos (by omega)).symm)
  exact (dif_neg h₁).trans (if_neg (by omega)).symm

/-- The four numbers of a box, side by side. -/
theorem boxed (p₀ p₁ p₂ p₃ : S16x3x76x76x1.Idx → α) (u : Fin 16) (a : Fin 3) (h w : Fin 76) (d : Fin 4) :
    concatenate S16x3x76x76x4 4 [⟨S16x3x76x76x1, p₀⟩, ⟨S16x3x76x76x1, p₁⟩, ⟨S16x3x76x76x1, p₂⟩, ⟨S16x3x76x76x1, p₃⟩]
        concatenates_S16x3x76x76x1_S16x3x76x76x1_S16x3x76x76x1_S16x3x76x76x1_S16x3x76x76x4_d4 (ix5 u a h w d)
      = if d.val = 0 then p₀ (ix5 u a h w 0) else if d.val = 1 then p₁ (ix5 u a h w 0) else if d.val = 2 then p₂ (ix5 u a h w 0)
        else p₃ (ix5 u a h w 0) := by
  pointwise
  have one (v : S16x3x76x76x1.Idx → α) (i : Fin 1) : v (ix5 u a h w i) = v (ix5 u a h w 0) := by rw [Subsingleton.elim i 0]
  by_cases h₀ : d.val < 1
  · exact (dif_pos h₀).trans ((one _ _).trans (if_pos (by omega)).symm)
  refine (dif_neg h₀).trans (Eq.trans ?_ (if_neg (by omega)).symm)
  by_cases h₁ : d.val - 1 < 1
  · exact (dif_pos h₁).trans ((one _ _).trans (if_pos (by omega)).symm)
  refine (dif_neg h₁).trans (Eq.trans ?_ (if_neg (by omega)).symm)
  by_cases h₂ : d.val - 1 - 1 < 1
  · exact (dif_pos h₂).trans ((one _ _).trans (if_pos (by omega)).symm)
  exact (dif_neg h₂).trans ((one _ _).trans (if_neg (by omega)).symm)

/-- The confidences, laid end to end. -/
theorem rows_conf (x : S16x3x76x76.Idx → α) (u : Fin 16) (r : Fin 17328) :
    shapeCast S16x17328x1 x shapeCasts_S16x3x76x76_S16x17328x1 (ix3 u r 0)
      = x (ix4 u ⟨r.val / 5776, by have := r.isLt; omega⟩ ⟨r.val % 5776 / 76, by have := r.isLt; omega⟩
          ⟨r.val % 5776 % 76, by have := r.isLt; omega⟩) := by
  pointwise
  rw [image_row, image_column]

/-- The classes, laid end to end. -/
theorem rows_classes (x : S16x3x76x76x80.Idx → α) (u : Fin 16) (r : Fin 17328) (k : Fin 80) :
    shapeCast S16x17328x80 x shapeCasts_S16x3x76x76x80_S16x17328x80 (ix3 u r k)
      = x (ix5 u ⟨r.val / 5776, by have := r.isLt; omega⟩ ⟨r.val % 5776 / 76, by have := r.isLt; omega⟩
          ⟨r.val % 5776 % 76, by have := r.isLt; omega⟩ k) := by
  pointwise
  rw [image_row, image_column]

/-- The input with its channels split and put last. -/
def planes (x : S16x255x76x76.Idx → α) : S16x3x76x76x85.Idx → α :=
  transpose S16x3x76x76x85 [0, 1, 3, 4, 2] (shapeCast S16x3x85x76x76 x shapeCasts_S16x255x76x76_S16x3x85x76x76) transposes_S16x3x85x76x76_S16x3x76x76x85_0_1_3_4_2

/-- The channel `k` of anchor `a` is channel `85 a + k` of the input. -/
theorem planes_at (x : S16x255x76x76.Idx → α) (u : Fin 16) (a : Fin 3) (h w : Fin 76) (k : Fin 85) :
    planes x (ix5 u a h w k) = x (ix4 u ⟨a.val * 85 + k.val, by have := a.isLt; have := k.isLt; omega⟩ h w) := by
  unfold planes
  pointwise

/-- One channel, cut out and its axis of one dropped. -/
theorem channel_at (y : S16x3x76x76x85.Idx → α) (j : ℕ) (hj : j < 85) (hs) (u : Fin 16) (a : Fin 3) (h w : Fin 76) :
    shapeCast S16x3x76x76 (extractStridedSlice S16x3x76x76x1 ![0, 0, 0, 0, j] y hs) shapeCasts_S16x3x76x76x1_S16x3x76x76 (ix4 u a h w)
      = y (ix5 u a h w ⟨j, hj⟩) := by
  pointwise

/-- The eighty classes, cut out. -/
theorem class_at (y : S16x3x76x76x85.Idx → α) (u : Fin 16) (a : Fin 3) (h w : Fin 76) (k : Fin 80) :
    extractStridedSlice S16x3x76x76x80 ![0, 0, 0, 0, 5] y slices_S16x3x76x76x85_S16x3x76x76x80_0_0_0_0_5 (ix5 u a h w k)
      = y (ix5 u a h w ⟨5 + k.val, by have := k.isLt; omega⟩) := by
  pointwise

/-- One over one plus the exponential of the negation is the logistic, on the boxes and the confidence. -/
theorem logistic_at (z : FVec Ideal S16x3x76x76 .f32) (i : S16x3x76x76.Idx) :
    Host.divf (broadcastInDim S16x3x76x76 ![] bcast_S_S16x3x76x76 (constant S_ .f32 0x3F800000#32))
      (addf (broadcastInDim S16x3x76x76 ![] bcast_S_S16x3x76x76 (constant S_ .f32 0x3F800000#32)) (Host.exp (Host.negf z))) i
      = Ideal.logistic (z i) := by
  idx_vars i
  pointwise
  rfl

/-- One over one plus the exponential of the negation is the logistic, on the classes. -/
theorem logistic_classes_at (z : FVec Ideal S16x3x76x76x80 .f32) (i : S16x3x76x76x80.Idx) :
    Host.divf (broadcastInDim S16x3x76x76x80 ![] bcast_S_S16x3x76x76x80 (constant S_ .f32 0x3F800000#32))
      (addf (broadcastInDim S16x3x76x76x80 ![] bcast_S_S16x3x76x76x80 (constant S_ .f32 0x3F800000#32)) (Host.exp (Host.negf z))) i
      = Ideal.logistic (z i) := by
  idx_vars i
  pointwise
  rfl

/-- The offset added to the first centre is the image column. -/
theorem columns_at (u : Fin 16) (a : Fin 3) (h w : Fin 76) :
    (broadcastInDim S16x3x76x76 ![0, 1, 2, 3] bcast_S1x1x76x76_S16x3x76x76_0_1_2_3 (shapeCast S1x1x76x76 (shapeCast S76x76 (broadcastInDim S76x1x1x76 ![0, 1, 2, 3] bcast_S1x1x1x76_S76x1x1x76_0_1_2_3 (shapeCast S1x1x1x76 (broadcastInDim S1x76 ![1] bcast_S76_S1x76_1 (sitofp .f32 (iotaInDim S76 32 0))) shapeCasts_S1x76_S1x1x1x76)) shapeCasts_S76x1x1x76_S76x76) shapeCasts_S76x76_S1x1x76x76) : FVec Ideal S16x3x76x76 .f32) (ix4 u a h w)
      = FloatOps.sitofp (F := Ideal) .f32 (BitVec.ofNat 32 w.val) := by
  pointwise

/-- The offset added to the second centre is the image row. -/
theorem rows_at (u : Fin 16) (a : Fin 3) (h w : Fin 76) :
    (broadcastInDim S16x3x76x76 ![0, 1, 2, 3] bcast_S1x1x76x76_S16x3x76x76_0_1_2_3 (shapeCast S1x1x76x76 (transpose S76x76 [1, 0] (shapeCast S76x76 (broadcastInDim S76x1x1x76 ![0, 1, 2, 3] bcast_S1x1x1x76_S76x1x1x76_0_1_2_3 (shapeCast S1x1x1x76 (broadcastInDim S1x76 ![1] bcast_S76_S1x76_1 (sitofp .f32 (iotaInDim S76 32 0))) shapeCasts_S1x76_S1x1x1x76)) shapeCasts_S76x1x1x76_S76x76) transposes_S76x76_S76x76_1_0) shapeCasts_S76x76_S1x1x76x76) : FVec Ideal S16x3x76x76 .f32) (ix4 u a h w)
      = FloatOps.sitofp (F := Ideal) .f32 (BitVec.ofNat 32 h.val) := by
  pointwise

/-- The width of an anchor, over the stride. -/
theorem widths_at (u : Fin 16) (a : Fin 3) (h w : Fin 76) :
    (broadcastInDim S16x3x76x76 ![0, 1, 2, 3] bcast_S1x3x1x1_S16x3x76x76_0_1_2_3 (shapeCast S1x3x1x1 (shapeCast S3 (extractStridedSlice S3x1 ![0, 0] (Host.divf (fun i => FloatOps.ofBits .f32 (lit0 (S3x2.rowMajor i))) (broadcastInDim S3x2 ![] bcast_S_S3x2 (constant S_ .f32 0x41000000#32))) slices_S3x2_S3x1_0_0) shapeCasts_S3x1_S3) shapeCasts_S3_S1x3x1x1) : FVec Ideal S16x3x76x76 .f32) (ix4 u a h w)
      = Ideal.div (Ideal.ofBits .f32 (Cert.KernelIdeal.Out.widthWord a)) (Ideal.ofBits .f32 0x41000000#32) := by
  pointwise
  match a with
  | 0 => rfl
  | 1 => rfl
  | 2 => rfl

/-- The height of an anchor, over the stride. -/
theorem heights_at (u : Fin 16) (a : Fin 3) (h w : Fin 76) :
    (broadcastInDim S16x3x76x76 ![0, 1, 2, 3] bcast_S1x3x1x1_S16x3x76x76_0_1_2_3 (shapeCast S1x3x1x1 (shapeCast S3 (extractStridedSlice S3x1 ![0, 1] (Host.divf (fun i => FloatOps.ofBits .f32 (lit0 (S3x2.rowMajor i))) (broadcastInDim S3x2 ![] bcast_S_S3x2 (constant S_ .f32 0x41000000#32))) slices_S3x2_S3x1_0_1) shapeCasts_S3x1_S3) shapeCasts_S3_S1x3x1x1) : FVec Ideal S16x3x76x76 .f32) (ix4 u a h w)
      = Ideal.div (Ideal.ofBits .f32 (Cert.KernelIdeal.Out.heightWord a)) (Ideal.ofBits .f32 0x41000000#32) := by
  pointwise
  match a with
  | 0 => rfl
  | 1 => rfl
  | 2 => rfl

/-- The stride is the number eight. -/
theorem eight : Ideal.ofBits .f32 0x41000000#32 = ((8 : ℝ) : EReal) := by
  simp [Ideal.ofBits, Ideal.ieee, -EReal.coe_mul]; norm_num

/-- Dividing an extent by the stride and multiplying the box by it again leaves the extent. -/
theorem scaled (e A : EReal) : e * Ideal.div A (Ideal.ofBits .f32 0x41000000#32) * Ideal.ofBits .f32 0x41000000#32 = e * A := by
  rw [eight, Ideal.div_coe (by norm_num : (8 : ℝ) ≠ 0), mul_assoc, mul_assoc, ← EReal.coe_mul]
  norm_num

/-- An axis of one put last. -/
theorem unit_at (y : S16x3x76x76.Idx → α) (u : Fin 16) (a : Fin 3) (h w : Fin 76) :
    broadcastInDim S16x3x76x76x1 ![0, 1, 2, 3] bcast_S16x3x76x76_S16x3x76x76x1_0_1_2_3 y (ix5 u a h w 0) = y (ix4 u a h w) := by
  pointwise

/-! ## The reference's result -/

open Cert.KernelIdeal.Out in
/-- Image `u`, row `r`, column `k` of the reference's result. -/
theorem result_at (m : (ℓ : Loc nD τ sig) → Buf (Elt Ideal) ℓ) (c : Dev nD) (u : Fin 16) (r : Fin 17328) (k : Fin 85) :
    (Value.res_main_v77 m c : S16x17328x85.Idx → EReal) (ix3 u r k)
      = decodeOne ⟨r.val / 5776, by have := r.isLt; omega⟩ k ⟨r.val % 5776, Nat.mod_lt _ (by decide)⟩
          (m ((c.tc : Thread nD τ).loc main_arg0) (ix4 u ⟨r.val / 5776 * 85 + k.val, by have := r.isLt; have := k.isLt; omega⟩
            ⟨r.val % 5776 / 76, by have := r.isLt; omega⟩ ⟨r.val % 5776 % 76, Nat.mod_lt _ (by decide)⟩)) := by
  unfold Value.res_main_v77
  generalize m ((c.tc : Thread nD τ).loc main_arg0) = x
  refine (joined _ _ _ u r k).trans ?_
  unfold decodeOne
  have hk := k.isLt
  by_cases h₀ : k.val < 4
  · refine (dif_pos h₀).trans ?_
    refine (congrArg (fun z => (z : EReal) * Ideal.ofBits .f32 0x41000000#32) ((rows _ u r _).trans (boxed _ _ _ _ _ _ _ _ _))).trans ?_
    obtain h | h | h | h : k.val = 0 ∨ k.val = 1 ∨ k.val = 2 ∨ k.val = 3 := by omega
    · obtain rfl : k = 0 := Fin.ext h
      refine Eq.trans ?_ (if_pos rfl).symm
      exact congrArg (fun z : EReal => z * Ideal.ofBits .f32 0x41000000#32) (((if_pos rfl).trans (unit_at _ _ _ _ _)).trans
        (congrArg₂ (fun y z : EReal => y + z) ((logistic_at _ _).trans (congrArg Ideal.logistic
          ((channel_at (planes x) 0 (by decide) _ _ _ _ _).trans (planes_at x _ _ _ _ _)))) (columns_at _ _ _ _)))
    · obtain rfl : k = 1 := Fin.ext h
      refine Eq.trans ?_ ((if_neg (by decide)).trans (if_pos rfl)).symm
      exact congrArg (fun z : EReal => z * Ideal.ofBits .f32 0x41000000#32)
        (((if_neg (show ¬ (1 : ℕ) = 0 by decide)).trans ((if_pos rfl).trans (unit_at _ _ _ _ _))).trans
        (congrArg₂ (fun y z : EReal => y + z) ((logistic_at _ _).trans (congrArg Ideal.logistic
          ((channel_at (planes x) 1 (by decide) _ _ _ _ _).trans (planes_at x _ _ _ _ _)))) (rows_at _ _ _ _)))
    · obtain rfl : k = 2 := Fin.ext h
      refine Eq.trans ?_ ((if_neg (by decide)).trans ((if_neg (by decide)).trans (if_pos rfl))).symm
      exact (congrArg (fun z : EReal => z * Ideal.ofBits .f32 0x41000000#32)
        (((if_neg (show ¬ (2 : ℕ) = 0 by decide)).trans ((if_neg (show ¬ (2 : ℕ) = 1 by decide)).trans ((if_pos rfl).trans (unit_at _ _ _ _ _)))).trans
        (congrArg₂ (fun y z : EReal => y * z) (congrArg Ideal.exp
          ((channel_at (planes x) 2 (by decide) _ _ _ _ _).trans (planes_at x _ _ _ _ _))) (widths_at _ _ _ _)))).trans (scaled _ _)
    · obtain rfl : k = 3 := Fin.ext h
      refine Eq.trans ?_ ((if_neg (by decide)).trans ((if_neg (by decide)).trans ((if_neg (by decide)).trans (if_pos rfl)))).symm
      exact (congrArg (fun z : EReal => z * Ideal.ofBits .f32 0x41000000#32)
        (((if_neg (show ¬ (3 : ℕ) = 0 by decide)).trans ((if_neg (show ¬ (3 : ℕ) = 1 by decide)).trans ((if_neg (show ¬ (3 : ℕ) = 2 by decide)).trans (unit_at _ _ _ _ _)))).trans
        (congrArg₂ (fun y z : EReal => y * z) (congrArg Ideal.exp
          ((channel_at (planes x) 3 (by decide) _ _ _ _ _).trans (planes_at x _ _ _ _ _))) (heights_at _ _ _ _)))).trans (scaled _ _)
  · refine (dif_neg h₀).trans ?_
    have hn : ¬ k.val = 0 ∧ ¬ k.val = 1 ∧ ¬ k.val = 2 ∧ ¬ k.val = 3 := by omega
    rw [if_neg hn.1, if_neg hn.2.1, if_neg hn.2.2.1, if_neg hn.2.2.2]
    by_cases h₁ : k.val = 4
    · refine (if_pos h₁).trans ?_
      obtain rfl : k = 4 := Fin.ext h₁
      exact (rows_conf _ u r).trans ((logistic_at _ _).trans (congrArg Ideal.logistic
        ((channel_at (planes x) 4 (by decide) _ _ _ _ _).trans (planes_at x _ _ _ _ _))))
    · refine (if_neg h₁).trans ?_
      have e : (⟨5 + (k.val - 5), by omega⟩ : Fin 85) = k := Fin.ext (show 5 + (k.val - 5) = k.val by omega)
      refine (rows_classes _ u r _).trans ((logistic_classes_at _ _).trans (congrArg Ideal.logistic
        ((class_at (planes x) _ _ _ _ _).trans ?_)))
      rw [e]
      exact planes_at x _ _ _ _ _

end Cert.ReferenceIdeal.Out
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Carry
public import proofs.«01_k».proof.Proof.Block
public import proofs.«01_k».proof.Proof.Reference
public import Idealize.ShloMosaic.Adequacy
public import Idealize.ShloMosaic.Init

@[expose] public section

noncomputable section

namespace Cert.Proof

open Idealize.ShloMosaic Idealize.SL.Sem Cert.Kernel

variable {F : FTy → Type} [FloatOps F]

/-- The launch runs, its argument ends unchanged and its counters end at zero, whatever the floats are. -/
theorem frame_of_run (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono (fun _ h => ⟨fun c => (h.1 c).2.2, h.2⟩) (Cert.KernelIdeal.Out.run m g)

/-- The kernel runs, its argument ends unchanged and its counters end at zero. -/
theorem frame_kernel : Cert.quiescent_Kernel := Cert.Carry.frame_of frame_of_run

/-- So does its idealization. -/
theorem frame_kernelIdeal : Cert.quiescent_KernelIdeal := fun m g _ => frame_of_run m g

/-- So does the reference, which has no counter. -/
theorem frame_referenceIdeal : Cert.quiescent_ReferenceIdeal := fun m g _ =>
  (θ_run _ _ _).mono (fun r h => ⟨fun c => (h c).2.2, sem_eq_zero_of_no_sems (by decide) r.2⟩)
    (Cert.ReferenceIdeal.Value.run (F := Ideal) m g)

/-- On equal inputs the two results are equal, element by element. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Value.res_main_v77 m' c : Cert.KernelIdeal.S16x17328x85.Idx → EReal) = Cert.KernelIdeal.Out.result m c := by
  funext i
  rw [eq_ix3 i]
  refine (Cert.ReferenceIdeal.Out.result_at m' c _ _ _).trans (Eq.trans ?_ (Cert.KernelIdeal.Out.result_at m c _ _ _).symm)
  rw [h]

/-- At the extended reals, from equal inputs, the kernel and the reference end with equal results. -/
theorem algebraic : Cert.algebraic_KernelIdeal_ReferenceIdeal := fun m g m' g' _ hm =>
  ⟨Cert.KernelIdeal.Out.result m, fun _ => constantI Cert.KernelIdeal.S_ 32 0#32,
    (θ_run _ _ _).mono (fun _ h => h.1) (Cert.KernelIdeal.Out.run m g),
    (θ_run _ _ _).mono (fun _ h c => ⟨(h c).1.trans (results_eq m m' c (hm c)), (h c).2.1, (h c).2.2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
